-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def preserves_Kernel_KernelIdeal : Prop :=
  True

def holds_KernelIdeal_weights_cast [hKernelIdeal : Cert.KernelIdeal.Facts] [hPost_weights_cast : Cert.Post_weights_cast.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ (Cert.Post_weights_cast.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (r.2.mem ((c.tc : Thread Cert.KernelIdeal.nD Cert.KernelIdeal.τ).loc Cert.KernelIdeal.main_v13_0)) (r.2.mem ((c.tc : Thread Cert.KernelIdeal.nD Cert.KernelIdeal.τ).loc Cert.KernelIdeal.main_v13_1)) (r.2.mem ((c.tc : Thread Cert.KernelIdeal.nD Cert.KernelIdeal.τ).loc Cert.KernelIdeal.main_v13_2))).1 = (fun _ => 1#1)
      ∧ (Cert.Post_weights_cast.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (r.2.mem ((c.tc : Thread Cert.KernelIdeal.nD Cert.KernelIdeal.τ).loc Cert.KernelIdeal.main_v13_0)) (r.2.mem ((c.tc : Thread Cert.KernelIdeal.nD Cert.KernelIdeal.τ).loc Cert.KernelIdeal.main_v13_1)) (r.2.mem ((c.tc : Thread Cert.KernelIdeal.nD Cert.KernelIdeal.τ).loc Cert.KernelIdeal.main_v13_2))).2 = (fun _ => 1#1))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v34) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def Claim : Prop :=
  ∃ (hKernel : Cert.Kernel.Facts) (hKernelIdeal : Cert.KernelIdeal.Facts) (hMlp : Cert.Mlp.Facts) (hMlpIdeal : Cert.MlpIdeal.Facts) (hMlpReferenceIdeal : Cert.MlpReferenceIdeal.Facts) (hPost_weights_cast : Cert.Post_weights_cast.Facts),
    quiescent_Kernel (hKernel := hKernel)
    ∧ quiescent_KernelIdeal (hKernelIdeal := hKernelIdeal)
    ∧ quiescent_Mlp (hMlp := hMlp)
    ∧ quiescent_MlpIdeal (hMlpIdeal := hMlpIdeal)
    ∧ quiescent_MlpReferenceIdeal (hMlpReferenceIdeal := hMlpReferenceIdeal)
    ∧ preserves_Kernel_KernelIdeal
    ∧ holds_KernelIdeal_weights_cast (hKernelIdeal := hKernelIdeal) (hPost_weights_cast := hPost_weights_cast)
    ∧ preserves_Mlp_MlpIdeal
    ∧ algebraic_MlpIdeal_MlpReferenceIdeal (hMlpIdeal := hMlpIdeal) (hMlpReferenceIdeal := hMlpReferenceIdeal)
-- ==== Post_weights_cast.lean ====
abbrev S8x2048x1024 : Shape := ⟨3, ![8, 2048, 1024]⟩
abbrev S16x1024 : Shape := ⟨2, ![16, 1024]⟩
abbrev S1x1024 : Shape := ⟨2, ![1, 1024]⟩
abbrev S1x1024x3088 : Shape := ⟨3, ![1, 1024, 3088]⟩
abbrev S1x16x256 : Shape := ⟨3, ![1, 16, 256]⟩
abbrev S1x256 : Shape := ⟨2, ![1, 256]⟩
abbrev S1x128 : Shape := ⟨2, ![1, 128]⟩
abbrev S1x3x512 : Shape := ⟨3, ![1, 3, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S4096x1024 : Shape := ⟨2, ![4096, 1024]⟩

class Facts : Prop where
  shapeCasts_S1x1024x4096_S1024x4096 : S1x1024x4096.ShapeCasts S1024x4096
  bitsLt_bf16_f32 : FTy.bits .bf16 < FTy.bits .f32
  shapeCasts_S1x4096x1024_S4096x1024 : S1x4096x1024.ShapeCasts S4096x1024

variable [Facts]

def fn {F : FTy → Type} [FloatOps F] (main_arg0 : FVec F S8x2048x1024 .f32) (main_arg1 : FVec F S16x1024 .f32) (main_arg2 : FVec F S1x1024 .f32) (main_arg3 : FVec F S1x1024x3088 .f32) (main_arg4 : FVec F S1x16x256 .f32) (main_arg5 : FVec F S1x256 .f32) (main_arg6 : FVec F S1x128 .f32) (main_arg7 : FVec F S1x3x512 .f32) (main_arg8 : FVec F S1x1024x1024 .f32) (main_arg9 : FVec F S1x1024x4096 .f32) (main_arg10 : FVec F S1x4096x1024 .f32) (main_arg11 : FVec F S8x2048x1024 .f32) (main_arg12 : FVec F S1024x4096 .bf16) (main_arg13 : FVec F S4096x1024 .bf16) : IVec S1024x4096 1 × IVec S4096x1024 1 :=
  let main_v0 : FVec F S1024x4096 .f32 := shapeCast S1024x4096 main_arg9 shapeCasts_S1x1024x4096_S1024x4096
  let main_v1 : FVec F S1024x4096 .bf16 := (truncf .bf16 · bitsLt_bf16_f32) main_v0
  let main_v2 : IVec S1024x4096 1 := cmpf .oeq main_arg12 main_v1
  let main_v3 : FVec F S4096x1024 .f32 := shapeCast S4096x1024 main_arg10 shapeCasts_S1x4096x1024_S4096x1024
  let main_v4 : FVec F S4096x1024 .bf16 := (truncf .bf16 · bitsLt_bf16_f32) main_v3
  let main_v5 : IVec S4096x1024 1 := cmpf .oeq main_arg13 main_v4
  (main_v2, main_v5)
-- ==== Kernel.lean ====
abbrev S8x2048x1024 : Shape := ⟨3, ![8, 2048, 1024]⟩
abbrev S16x1024 : Shape := ⟨2, ![16, 1024]⟩
abbrev S1x1024 : Shape := ⟨2, ![1, 1024]⟩
abbrev S1x1024x3088 : Shape := ⟨3, ![1, 1024, 3088]⟩
abbrev S1x16x256 : Shape := ⟨3, ![1, 16, 256]⟩
abbrev S1x256 : Shape := ⟨2, ![1, 256]⟩
abbrev S1x128 : Shape := ⟨2, ![1, 128]⟩
abbrev S1x3x512 : Shape := ⟨3, ![1, 3, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S448x128 : Shape := ⟨2, ![448, 128]⟩
abbrev S16x32 : Shape := ⟨2, ![16, 32]⟩
abbrev S128x256 : Shape := ⟨2, ![128, 256]⟩
abbrev S256x64 : Shape := ⟨2, ![256, 64]⟩
abbrev S256 : Shape := ⟨1, ![256]⟩
abbrev S1024 : Shape := ⟨1, ![1024]⟩
abbrev S128 : Shape := ⟨1, ![128]⟩
abbrev S3x512 : Shape := ⟨2, ![3, 512]⟩
abbrev S1x1536 : Shape := ⟨2, ![1, 1536]⟩
abbrev S1x3088x1024 : Shape := ⟨3, ![1, 3088, 1024]⟩
abbrev S3088x1024 : Shape := ⟨2, ![3088, 1024]⟩
abbrev S1024x1024 : Shape := ⟨2, ![1024, 1024]⟩
abbrev S1024x4096 : Shape := ⟨2, ![1024, 4096]⟩
abbrev S4096x1024 : Shape := ⟨2, ![4096, 1024]⟩
abbrev S1x512x1024 : Shape := ⟨3, ![1, 512, 1024]⟩
abbrev S32x4096 : Shape := ⟨2, ![32, 4096]⟩
abbrev S128x1024 : Shape := ⟨2, ![128, 1024]⟩
abbrev S1536x1024 : Shape := ⟨2, ![1536, 1024]⟩
abbrev S8x512 : Shape := ⟨2, ![8, 512]⟩
abbrev S4x512x1024 : Shape := ⟨3, ![4, 512, 1024]⟩
abbrev S4 : Shape := ⟨1, ![4]⟩
abbrev S512x1024 : Shape := ⟨2, ![512, 1024]⟩
abbrev S512x128 : Shape := ⟨2, ![512, 128]⟩
abbrev S512x256 : Shape := ⟨2, ![512, 256]⟩
abbrev S512x512 : Shape := ⟨2, ![512, 512]⟩
abbrev S1 : Shape := ⟨1, ![1]⟩
abbrev S_ : Shape := ⟨0, ![]⟩
abbrev S16 : Shape := ⟨1, ![16]⟩
abbrev S16x1 : Shape := ⟨2, ![16, 1]⟩
abbrev S16x256 : Shape := ⟨2, ![16, 256]⟩
abbrev S32x256 : Shape := ⟨2, ![32, 256]⟩
abbrev S32x1024 : Shape := ⟨2, ![32, 1024]⟩
abbrev S16x128 : Shape := ⟨2, ![16, 128]⟩
abbrev S512 : Shape := ⟨1, ![512]⟩
abbrev S512x1 : Shape := ⟨2, ![512, 1]⟩
abbrev S16x512 : Shape := ⟨2, ![16, 512]⟩
abbrev S16x3072 : Shape := ⟨2, ![16, 3072]⟩
abbrev S64x128 : Shape := ⟨2, ![64, 128]⟩
abbrev S128x64 : Shape := ⟨2, ![128, 64]⟩
abbrev S64x256 : Shape := ⟨2, ![64, 256]⟩
abbrev S256x1024 : Shape := ⟨2, ![256, 1024]⟩
abbrev S1x512x256 : Shape := ⟨3, ![1, 512, 256]⟩
abbrev S1x1x1 : Shape := ⟨3, ![1, 1, 1]⟩
abbrev S128x512 : Shape := ⟨2, ![128, 512]⟩
abbrev S128x128 : Shape := ⟨2, ![128, 128]⟩
abbrev S256x256 : Shape := ⟨2, ![256, 256]⟩
abbrev S1x512 : Shape := ⟨2, ![1, 512]⟩
abbrev S64x512 : Shape := ⟨2, ![64, 512]⟩
abbrev S448x256 : Shape := ⟨2, ![448, 256]⟩
abbrev S256x128 : Shape := ⟨2, ![256, 128]⟩
abbrev S64x64 : Shape := ⟨2, ![64, 64]⟩

abbrev nBuf : Space → Nat
  | .hbm => 31
  | .vmem => 48
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S1x1024, .f32⟩
  | .hbm, ⟨3, _⟩ => ⟨S1x1024x3088, .f32⟩
  | .hbm, ⟨4, _⟩ => ⟨S1x16x256, .f32⟩
  | .hbm, ⟨5, _⟩ => ⟨S1x256, .f32⟩
  | .hbm, ⟨6, _⟩ => ⟨S1x128, .f32⟩
  | .hbm, ⟨7, _⟩ => ⟨S1x3x512, .f32⟩
  | .hbm, ⟨8, _⟩ => ⟨S1x1024x1024, .f32⟩
  | .hbm, ⟨9, _⟩ => ⟨S1x1024x4096, .f32⟩
  | .hbm, ⟨10, _⟩ => ⟨S1x4096x1024, .f32⟩
  | .hbm, ⟨11, _⟩ => ⟨S448x128, .bf16⟩
  | .hbm, ⟨12, _⟩ => ⟨S16x32, .bf16⟩
  | .hbm, ⟨13, _⟩ => ⟨S128x256, .bf16⟩
  | .hbm, ⟨14, _⟩ => ⟨S256x64, .i32⟩
  | .hbm, ⟨15, _⟩ => ⟨S256, .f32⟩
  | .hbm, ⟨16, _⟩ => ⟨S1x256, .f32⟩
  | .hbm, ⟨17, _⟩ => ⟨S1024, .f32⟩
  | .hbm, ⟨18, _⟩ => ⟨S1x1024, .f32⟩
  | .hbm, ⟨19, _⟩ => ⟨S128, .f32⟩
  | .hbm, ⟨20, _⟩ => ⟨S1x128, .f32⟩
  | .hbm, ⟨21, _⟩ => ⟨S3x512, .f32⟩
  | .hbm, ⟨22, _⟩ => ⟨S1x1536, .f32⟩
  | .hbm, ⟨23, _⟩ => ⟨S1x3088x1024, .f32⟩
  | .hbm, ⟨24, _⟩ => ⟨S3088x1024, .f32⟩
  | .hbm, ⟨25, _⟩ => ⟨S1024x1024, .f32⟩
  | .hbm, ⟨26, _⟩ => ⟨S1024x4096, .f32⟩
  | .hbm, ⟨27, _⟩ => ⟨S4096x1024, .f32⟩
  | .hbm, ⟨28, _⟩ => ⟨S8x2048x1024, .f32⟩
  | .hbm, ⟨29, _⟩ => ⟨S1024x4096, .bf16⟩
  | .hbm, ⟨30, _⟩ => ⟨S4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S16x1024, .f32⟩
  | .local _ .vmem, ⟨5, _⟩ => ⟨S1x1024, .f32⟩
  | .local _ .vmem, ⟨6, _⟩ => ⟨S16x1024, .f32⟩
  | .local _ .vmem, ⟨7, _⟩ => ⟨S1x16x256, .f32⟩
  | .local _ .vmem, ⟨8, _⟩ => ⟨S1x256, .f32⟩
  | .local _ .vmem, ⟨9, _⟩ => ⟨S1x128, .f32⟩
  | .local _ .vmem, ⟨10, _⟩ => ⟨S1x1536, .f32⟩
  | .local _ .vmem, ⟨11, _⟩ => ⟨S128x256, .bf16⟩
  | .local _ .vmem, ⟨12, _⟩ => ⟨S16x32, .bf16⟩
  | .local _ .vmem, ⟨13, _⟩ => ⟨S448x128, .bf16⟩
  | .local _ .vmem, ⟨14, _⟩ => ⟨S256x64, .i32⟩
  | .local _ .vmem, ⟨15, _⟩ => ⟨S32x4096, .f32⟩
  | .local _ .vmem, ⟨16, _⟩ => ⟨S32x4096, .f32⟩
  | .local _ .vmem, ⟨17, _⟩ => ⟨S128x1024, .f32⟩
  | .local _ .vmem, ⟨18, _⟩ => ⟨S128x1024, .f32⟩
  | .local _ .vmem, ⟨19, _⟩ => ⟨S1x512x1024, .f32⟩
  | .local _ .vmem, ⟨20, _⟩ => ⟨S1x512x1024, .f32⟩
  | .local _ .vmem, ⟨21, _⟩ => ⟨S32x4096, .bf16⟩
  | .local _ .vmem, ⟨22, _⟩ => ⟨S32x4096, .bf16⟩
  | .local _ .vmem, ⟨23, _⟩ => ⟨S128x1024, .bf16⟩
  | .local _ .vmem, ⟨24, _⟩ => ⟨S128x1024, .bf16⟩
  | .local _ .vmem, ⟨25, _⟩ => ⟨S1536x1024, .bf16⟩
  | .local _ .vmem, ⟨26, _⟩ => ⟨S1536x1024, .bf16⟩
  | .local _ .vmem, ⟨27, _⟩ => ⟨S128x1024, .bf16⟩
  | .local _ .vmem, ⟨28, _⟩ => ⟨S128x256, .bf16⟩
  | .local _ .vmem, ⟨29, _⟩ => ⟨S1024x1024, .bf16⟩
  | .local _ .vmem, ⟨30, _⟩ => ⟨S128x256, .f32⟩
  | .local _ .vmem, ⟨31, _⟩ => ⟨S8x512, .f32⟩
  | .local _ .vmem, ⟨32, _⟩ => ⟨S4x512x1024, .f32⟩
  | .local _ .vmem, ⟨33, _⟩ => ⟨S128x256, .f32⟩
  | .local _ .vmem, ⟨34, _⟩ => ⟨S128x256, .f32⟩
  | .local _ .vmem, ⟨35, _⟩ => ⟨S8x512, .f32⟩
  | .local _ .vmem, ⟨36, _⟩ => ⟨S512x1024, .bf16⟩
  | .local _ .vmem, ⟨37, _⟩ => ⟨S512x1024, .bf16⟩
  | .local _ .vmem, ⟨38, _⟩ => ⟨S512x128, .f32⟩
  | .local _ .vmem, ⟨39, _⟩ => ⟨S512x256, .f32⟩
  | .local _ .vmem, ⟨40, _⟩ => ⟨S512x256, .f32⟩
  | .local _ .vmem, ⟨41, _⟩ => ⟨S512x512, .f32⟩
  | .local _ .vmem, ⟨42, _⟩ => ⟨S512x256, .f32⟩
  | .local _ .vmem, ⟨43, _⟩ => ⟨S512x256, .f32⟩
  | .local _ .vmem, ⟨44, _⟩ => ⟨S512x256, .f32⟩
  | .local _ .vmem, ⟨45, _⟩ => ⟨S512x512, .f32⟩
  | .local _ .vmem, ⟨46, _⟩ => ⟨S512x512, .f32⟩
  | .local _ .vmem, ⟨47, _⟩ => ⟨S512x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_cst_1 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch9 : Ref sig .tc := ⟨.vmem, 33, rfl⟩
abbrev cc0_scratch10 : Ref sig .tc := ⟨.vmem, 34, rfl⟩
abbrev cc0_scratch11 : Ref sig .tc := ⟨.vmem, 35, rfl⟩
abbrev cc0_scratch12 : Ref sig .tc := ⟨.vmem, 36, rfl⟩
abbrev cc0_scratch13 : Ref sig .tc := ⟨.vmem, 37, rfl⟩
abbrev cc0_scratch14 : Ref sig .tc := ⟨.vmem, 38, rfl⟩
abbrev cc0_scratch15 : Ref sig .tc := ⟨.vmem, 39, rfl⟩
abbrev cc0_scratch16 : Ref sig .tc := ⟨.vmem, 40, rfl⟩
abbrev cc0_scratch17 : Ref sig .tc := ⟨.vmem, 41, rfl⟩
abbrev cc0_scratch18 : Ref sig .tc := ⟨.vmem, 42, rfl⟩
abbrev cc0_scratch19 : Ref sig .tc := ⟨.vmem, 43, rfl⟩
abbrev cc0_scratch20 : Ref sig .tc := ⟨.vmem, 44, rfl⟩
abbrev cc0_scratch21 : Ref sig .tc := ⟨.vmem, 45, rfl⟩
abbrev cc0_scratch22 : Ref sig .tc := ⟨.vmem, 46, rfl⟩
abbrev cc0_scratch23 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_375 : BitVec 32 := 0#32
  let c8_i32 : BitVec 32 := 8#32
  let v754 : BitVec 32 := Scalar.addi c0_i32_375 c8_i32
  let c1_i32_376 : BitVec 32 := 1#32
  ⟨c0_i32_375, v754, c1_i32_376⟩
def k0_mult1 (k0_t1 : Fin k0_t1_loop.trips) : BitVec 32 :=
  let c0_i32_375 : BitVec 32 := 0#32
  let c1_i32_376 : BitVec 32 := 1#32
  let arg46 : BitVec 32 := Scf.iv c0_i32_375 c1_i32_376 k0_t1
  let c64_i32 : BitVec 32 := 64#32
  let v829 : BitVec 32 := Scalar.muli arg46 c64_i32
  v829
def k0_off1 (k0_t1 : Fin k0_t1_loop.trips) : Fin 2 → Nat :=
  let c0_i32_375 : BitVec 32 := 0#32
  let c1_i32_376 : BitVec 32 := 1#32
  let arg46 : BitVec 32 := Scf.iv c0_i32_375 c1_i32_376 k0_t1
  let c64_i32 : BitVec 32 := 64#32
  let v829 : BitVec 32 := Scalar.muli arg46 c64_i32
  let v830 : BitVec 32 := v829
  let v831 : Index := Scalar.indexCast v830
  let c0_418 : Index := 0#32
  ![v831.toNat, 0]
def k0_off2 (k0_t1 : Fin k0_t1_loop.trips) : Fin 2 → Nat :=
  let c0_i32_375 : BitVec 32 := 0#32
  let c1_i32_376 : BitVec 32 := 1#32
  let arg46 : BitVec 32 := Scf.iv c0_i32_375 c1_i32_376 k0_t1
  let c64_i32 : BitVec 32 := 64#32
  let v829 : BitVec 32 := Scalar.muli arg46 c64_i32
  let v830 : BitVec 32 := v829
  let v835 : Index := Scalar.indexCast v830
  let c0_420 : Index := 0#32
  ![v835.toNat, 0]
def k0_off3 (k0_t1 : Fin k0_t1_loop.trips) : Fin 2 → Nat :=
  let c0_i32_375 : BitVec 32 := 0#32
  let c1_i32_376 : BitVec 32 := 1#32
  let arg46 : BitVec 32 := Scf.iv c0_i32_375 c1_i32_376 k0_t1
  let c64_i32 : BitVec 32 := 64#32
  let v829 : BitVec 32 := Scalar.muli arg46 c64_i32
  let v830 : BitVec 32 := v829
  let v1159 : Index := Scalar.indexCast v830
  let c0_542 : Index := 0#32
  ![v1159.toNat, 0]
def k0_off4 (k0_t1 : Fin k0_t1_loop.trips) : Fin 2 → Nat :=
  let c0_i32_375 : BitVec 32 := 0#32
  let c1_i32_376 : BitVec 32 := 1#32
  let arg46 : BitVec 32 := Scf.iv c0_i32_375 c1_i32_376 k0_t1
  let c64_i32 : BitVec 32 := 64#32
  let v829 : BitVec 32 := Scalar.muli arg46 c64_i32
  let v830 : BitVec 32 := v829
  let v1169 : Index := Scalar.indexCast v830
  let c128_544 : Index := 128#32
  ![v1169.toNat, 128]
def k0_off5 (k0_t1 : Fin k0_t1_loop.trips) : Fin 2 → Nat :=
  let c0_i32_375 : BitVec 32 := 0#32
  let c1_i32_376 : BitVec 32 := 1#32
  let arg46 : BitVec 32 := Scf.iv c0_i32_375 c1_i32_376 k0_t1
  let c64_i32 : BitVec 32 := 64#32
  let v829 : BitVec 32 := Scalar.muli arg46 c64_i32
  let v830 : BitVec 32 := v829
  let v1179 : Index := Scalar.indexCast v830
  let c256_546 : Index := 256#32
  ![v1179.toNat, 256]
def k0_off6 (k0_t1 : Fin k0_t1_loop.trips) : Fin 2 → Nat :=
  let c0_i32_375 : BitVec 32 := 0#32
  let c1_i32_376 : BitVec 32 := 1#32
  let arg46 : BitVec 32 := Scf.iv c0_i32_375 c1_i32_376 k0_t1
  let c64_i32 : BitVec 32 := 64#32
  let v829 : BitVec 32 := Scalar.muli arg46 c64_i32
  let v830 : BitVec 32 := v829
  let v1189 : Index := Scalar.indexCast v830
  let c384_548 : Index := 384#32
  ![v1189.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.addi v1 c1_i32
  let c31_i32 : BitVec 32 := 31#32
  let v3 : BitVec 32 := Scalar.minsi v2 c31_i32
  let c4_i32_0 : BitVec 32 := 4#32
  let v4 : BitVec 32 := Scalar.divsi v3 c4_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v3 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  ![v20.toNat, v30.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1536_i32 : BitVec 32 := 1536#32
  let c0_i32 : BitVec 32 := 0#32
  let c0_i32_0 : BitVec 32 := 0#32
  ![c1536_i32.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S448x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x64 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S32x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S32x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S128x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Mlp.lean ====
abbrev S8x2048x1024 : Shape := ⟨3, ![8, 2048, 1024]⟩
abbrev S1024x4096 : Shape := ⟨2, ![1024, 4096]⟩
abbrev S4096x1024 : Shape := ⟨2, ![4096, 1024]⟩
abbrev S1x1024 : Shape := ⟨2, ![1, 1024]⟩
abbrev S1024 : Shape := ⟨1, ![1024]⟩
abbrev S16384x1024 : Shape := ⟨2, ![16384, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1024x4096, .bf16⟩
  | .hbm, ⟨2, _⟩ => ⟨S4096x1024, .bf16⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpReferenceIdeal.lean ====
abbrev S8x2048x1024 : Shape := ⟨3, ![8, 2048, 1024]⟩
abbrev S1024x4096 : Shape := ⟨2, ![1024, 4096]⟩
abbrev S4096x1024 : Shape := ⟨2, ![4096, 1024]⟩
abbrev S1x1024 : Shape := ⟨2, ![1, 1024]⟩
abbrev S1024 : Shape := ⟨1, ![1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 48
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x4096, .bf16⟩
  | .hbm, ⟨2, _⟩ => ⟨S4096x1024, .bf16⟩
  | .hbm, ⟨3, _⟩ => ⟨S1x1024, .f32⟩
  | .hbm, ⟨4, _⟩ => ⟨S1024, .f32⟩
  | .hbm, ⟨5, _⟩ => ⟨S16384x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1024x4096, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S4096x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Proof.KernelRegion.lean ====
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.Regions
public import Idealize.ShloMosaic.Lib.Pipeline.Quiescent
public import Idealize.ShloMosaic.Lib.Ring
public import proofs.«01_k».proof.Proof.KernelBody
public import Idealize.ShloMosaic.Lib.Tactic
public import Idealize.ShloMosaic.Lib.WordCmp

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The four counters of the kernel's own transfers. -/
abbrev osem0 : Fin 4 → SemLoc sig := fun j => (![SemLoc.dma 25, SemLoc.dma 26, SemLoc.dma 27, SemLoc.dma 28] : Fin 4 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 25) 0 ∗ semVal ((c : Thread nD τ), SemLoc.dma 26) 0
          ∗ semVal ((c : Thread nD τ), SemLoc.dma 27) 0 ∗ semVal ((c : Thread nD τ), SemLoc.dma 28) 0) := by
  rw [Pipeline.ownSems0_eq_of_list c osem0 [0, 1, 2, 3] (by decide) (by decide)]; rfl

/-- What the kernel keeps from one grid point to the next: the scratch buffers at some contents, the generator register, its own
    counters at zero, the half of the projection matrix that no window holds, and the output matrix. -/
def Inv (c : Dev nD) : sProp 𝕄 :=
  iprop(Pipeline.scopedRest spec0 c ∗ (∃ r, prngReg c r) ∗ Pipeline.ownSems0 osem0 c ∗ (((c : Thread nD τ).loc main_v9) ↦{fullShare.right} V m c main_v9) ∗ (((c : Thread nD τ).loc main_v10) ↦{fullShare} V m c main_v10))

/-- The proof data with every array's whole share dealt to the windows on it. -/
def datFull (c : Dev nD) : Dat τ (Elt F) Unit ℕ (Pipeline.UD sig nD τ) ℕ cfg0 c where
  A w := V m c (Pipeline.arrRef spec0 w)
  after w t := Dat.unnamed w t
  Φ _ := Inv m c
  q w := Pipeline.shareOf spec0 w
  owed _ := 0

/-- The proof data the region runs on: the window on the projection matrix holds only half of that array. -/
def dat (c : Dev nD) : Dat τ (Elt F) Unit ℕ (Pipeline.UD sig nD τ) ℕ cfg0 c where
  A w := V m c (Pipeline.arrRef spec0 w)
  after w t := Dat.unnamed w t
  Φ _ := Inv m c
  q w := if w = 4 then fullShare.left else Pipeline.shareOf spec0 w
  owed _ := 0

/-- Nothing is said of what the windows' staging buffers hold. -/
abbrev fgt : Fin cfg0.W → Bool := fun _ => true

theorem shareOf4 : Pipeline.shareOf spec0 4 = fullShare := Pipeline.shareOf_eq_fullShare spec0 (by decide)

/-- A whole array held in full, split in two halves. -/
theorem half (c : Dev nD) (f : Buf (Elt F) ((c : Thread nD τ).loc main_v9)) :
    (((c : Thread nD τ).loc main_v9) ↦{fullShare} f : sProp 𝕄)
      ⊢ iprop((((c : Thread nD τ).loc main_v9) ↦{fullShare.left} f) ∗ (((c : Thread nD τ).loc main_v9) ↦{fullShare.right} f)) :=
  (pointsTo_share (PosShare.mem_left_op_right fullShare)).1

theorem sep_half (c : Dev nD) (R : sProp 𝕄) :
    iprop((((c : Thread nD τ).loc main_v9) ↦{fullShare} V m c main_v9) ∗ R)
      ⊢ iprop(((((c : Thread nD τ).loc main_v9) ↦{fullShare.left} V m c main_v9) ∗ R) ∗ (((c : Thread nD τ).loc main_v9) ↦{fullShare.right} V m c main_v9)) := by
  iintro ⟨H4, Hr⟩
  ihave H := (half c (V m c main_v9)) $$ H4
  icases H with ⟨Hl, Hh⟩
  isplitr [Hh]
  · isplitl [Hl] <;> iassumption
  · iexact Hh

theorem arr4_full (c : Dev nD) :
    ((cfg0.win 4).arr.view.loc (c.tc : Thread nD τ) ↦[(cfg0.win 4).arr.view.set]{(datFull m c).share 4} (datFull m c).A 4 : sProp 𝕄)
      = (((c : Thread nD τ).loc main_v9) ↦{fullShare} V m c main_v9) := by
  have hs : (cfg0.win 4).arr.view.set = Finset.univ := (arr_whole0 4).set_eq_univ
  have hq : (datFull m c).share 4 = fullShare := by
    unfold Dat.share datFull; dsimp only; rw [shareOf4]; exact if_neg (by decide)
  rw [hs, hq]; rfl

theorem arr4_half (c : Dev nD) :
    ((cfg0.win 4).arr.view.loc (c.tc : Thread nD τ) ↦[(cfg0.win 4).arr.view.set]{(dat m c).share 4} (dat m c).A 4 : sProp 𝕄)
      = (((c : Thread nD τ).loc main_v9) ↦{fullShare.left} V m c main_v9) := by
  have hs : (cfg0.win 4).arr.view.set = Finset.univ := (arr_whole0 4).set_eq_univ
  have hq : (dat m c).share 4 = fullShare.left := by
    unfold Dat.share dat; dsimp only; rw [if_pos rfl]; exact if_neg (by decide)
  rw [hs, hq]; rfl

theorem arr_same (c : Dev nD) (w : Fin cfg0.W) (h : w ≠ 4) :
    ((cfg0.win w).arr.view.loc (c.tc : Thread nD τ) ↦[(cfg0.win w).arr.view.set]{(datFull m c).share w} (datFull m c).A w : sProp 𝕄)
      = ((cfg0.win w).arr.view.loc (c.tc : Thread nD τ) ↦[(cfg0.win w).arr.view.set]{(dat m c).share w} (dat m c).A w) := by
  have hq : (datFull m c).share w = (dat m c).share w := by
    unfold Dat.share datFull dat; dsimp only; rw [if_neg h]
  rw [hq]; rfl

/-- The arrays held in full are the arrays as the region holds them and the other half of the projection matrix. -/
theorem arrays_lend (c : Dev nD) :
    (datFull m c).arrays (datFull m c).A ⊢ (iprop((dat m c).arrays (dat m c).A ∗ (((c : Thread nD τ).loc main_v9) ↦{fullShare.right} V m c main_v9)) : sProp 𝕄) := by
  unfold Dat.arrays
  have e : (Finset.univ : Finset (Fin cfg0.W)) = insert 4 (Finset.univ.erase 4) := (Finset.insert_erase (Finset.mem_univ _)).symm
  rw [e, BI.bigSep_insert (Finset.notMem_erase _ _), BI.bigSep_insert (Finset.notMem_erase _ _), arr4_full, arr4_half,
    BI.bigSep_congr (s := Finset.univ.erase (4 : Fin cfg0.W)) fun w hw => arr_same m c w (Finset.ne_of_mem_erase hw)]
  exact sep_half m c _

/-! ## The body at a grid point -/

/-- A scratch buffer held whole, its extent written as the set of the buffer's own view. -/
theorem whole_eq (c : Dev nD) {sp : Space} {S : Shape} {e : EltTy} (M : Memref sig .tc sp S e) (h : M.IsWhole) (f : Buf (Elt F) (M.view.loc (c : Thread nD τ))) :
    (M.view.loc (c : Thread nD τ) ↦[M.view.set]{fullShare} f : sProp 𝕄) = (M.view.loc (c : Thread nD τ) ↦{fullShare} f) := by
  rw [h.set_eq_univ]

def stages (c : Dev nD) (t : Fin cfg0.N) : sProp 𝕄 :=
  iprop((∃ X, owns (c : Thread nD τ) (win0_0.stage (cfg0.slots t 0)) fullShare X)
    ∗ (∃ X, owns (c : Thread nD τ) (win0_1.stage (cfg0.slots t 1)) fullShare X)
    ∗ (∃ X, owns (c : Thread nD τ) (win0_2.stage (cfg0.slots t 2)) fullShare X)
    ∗ (∃ X, owns (c : Thread nD τ) (win0_3.stage (cfg0.slots t 3)) fullShare X)
    ∗ (∃ X, owns (c : Thread nD τ) (win0_4.stage (cfg0.slots t 4)) fullShare X)
    ∗ (∃ X, owns (c : Thread nD τ) (win0_5.stage (cfg0.slots t 5)) fullShare X)
    ∗ (∃ X, owns (c : Thread nD τ) (win0_6.stage (cfg0.slots t 6)) fullShare X)
    ∗ (∃ X, owns (c : Thread nD τ) (win0_7.stage (cfg0.slots t 7)) fullShare X)
    ∗ (∃ X, owns (c : Thread nD τ) (win0_8.stage (cfg0.slots t 8)) fullShare X)
    ∗ (∃ X, owns (c : Thread nD τ) (win0_9.stage (cfg0.slots t 9)) fullShare X)
    ∗ (∃ X, owns (c : Thread nD τ) (win0_10.stage (cfg0.slots t 10)) fullShare X)
    ∗ (∃ X, owns (c : Thread nD τ) (win0_11.stage (cfg0.slots t 11)) fullShare X)
    ∗ (∃ X, owns (c : Thread nD τ) (win0_12.stage (cfg0.slots t 12)) fullShare X)
    ∗ (∃ X, owns (c : Thread nD τ) (win0_13.stage (cfg0.slots t 13)) fullShare X)
    ∗ (∃ X, owns (c : Thread nD τ) (win0_14.stage (cfg0.slots t 14)) fullShare X)
    ∗ (∃ X, owns (c : Thread nD τ) (win0_15.stage (cfg0.slots t 15)) fullShare X)
    ∗ (∃ X, owns (c : Thread nD τ) (win0_16.stage (cfg0.slots t 16)) fullShare X)
    ∗ (∃ X, owns (c : Thread nD τ) (win0_17.stage (cfg0.slots t 17)) fullShare X))

def bodyPre (c : Dev nD) (t : Fin cfg0.N) : sProp 𝕄 :=
  iprop((dat m c).Φ t.castSucc ∗ (dat m c).owesAt () t.castSucc ∗ stages c t)
def bodyPost (c : Dev nD) (t : Fin cfg0.N) : sProp 𝕄 :=
  iprop((dat m c).Φ t.succ ∗ (dat m c).owesAt () t.succ ∗ stages c t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 stages
  rw [show (dat m c).Φ t.succ = Inv m c from rfl, show (dat m c).Φ t.castSucc = Inv m c from rfl]
  unfold Dat.owesAt Pipeline.owesWithin Inv
  rw [show (dat m c).owed t.castSucc = 0 from rfl, show (dat m c).owed t.succ = 0 from rfl, scopedRest0_eq, ownSems00_eq]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s9, S9⟩, ⟨%s10, S10⟩, ⟨%s11, S11⟩, ⟨%s12, S12⟩, ⟨%s13, S13⟩, ⟨%s14, S14⟩, ⟨%s15, S15⟩, ⟨%s16, S16⟩, ⟨%s17, S17⟩, ⟨%s18, S18⟩, ⟨%s19, S19⟩, ⟨%s20, S20⟩, ⟨%s21, S21⟩, ⟨%s22, S22⟩, ⟨%s23, S23⟩⟩, HP, ⟨Q25, Q26, Q27, Q28⟩, B9, B10⟩, ⟨%W, -, HW⟩, ⟨%x2, H2⟩, ⟨%x3, H3⟩, ⟨%x4, H4⟩, ⟨%x5, H5⟩, ⟨%x7, H7⟩, ⟨%x9, H9⟩, ⟨%x10, H10⟩, ⟨%x11, H11⟩, ⟨%x12, H12⟩, ⟨%x13, H13⟩, ⟨%x14, H14⟩, ⟨%x15, H15⟩, ⟨%x16, H16⟩, ⟨%x17, H17⟩, ⟨%x18, H18⟩, ⟨%x19, H19⟩, ⟨%x20, H20⟩, ⟨%x21, H21⟩⟩
  iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) x2 x3 x4 x5 x7 x9 x10 x11 x12 x13 x14 x15 x16 x17 x18 (V m c main_v9) (V m c main_v10) _)
  isplitr [HP]
  · unfold Held
    isplitl [H2]; · iexact H2
    isplitl [H3]; · iexact H3
    isplitl [H4]; · iexact H4
    isplitl [H5]; · iexact H5
    isplitl [H7]; · iexact H7
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [H20]; · iexists _; iexact H20
    isplitl [H21]; · iexists _; iexact H21
    isplitl [S0]
    · iexists s0; rw [whole_eq c scM0 (Memref.isWhole_whole _)]; iexact S0
    isplitl [S1]
    · iexists s1; rw [whole_eq c scM1 (Memref.isWhole_whole _)]; iexact S1
    isplitl [S2]
    · iexists s2; rw [whole_eq c scM2 (Memref.isWhole_whole _)]; iexact S2
    isplitl [S3]
    · iexists s3; rw [whole_eq c scM3 (Memref.isWhole_whole _)]; iexact S3
    isplitl [S4]
    · iexists s4; rw [whole_eq c scM4 (Memref.isWhole_whole _)]; iexact S4
    isplitl [S5]
    · iexists s5; rw [whole_eq c scM5 (Memref.isWhole_whole _)]; iexact S5
    isplitl [S6]
    · iexists s6; rw [whole_eq c scM6 (Memref.isWhole_whole _)]; iexact S6
    isplitl [S7]
    · iexists s7; iexact S7
    isplitl [S9]
    · iexists s9; rw [whole_eq c scM9 (Memref.isWhole_whole _)]; iexact S9
    isplitl [S10]
    · iexists s10; rw [whole_eq c scM10 (Memref.isWhole_whole _)]; iexact S10
    isplitl [S11]
    · iexists s11; rw [whole_eq c scM11 (Memref.isWhole_whole _)]; iexact S11
    isplitl [S12]
    · iexists s12; rw [whole_eq c scM12 (Memref.isWhole_whole _)]; iexact S12
    isplitl [S13]
    · iexists s13; rw [whole_eq c scM13 (Memref.isWhole_whole _)]; iexact S13
    isplitl [S14]
    · iexists s14; rw [whole_eq c scM14 (Memref.isWhole_whole _)]; iexact S14
    isplitl [S15]
    · iexists s15; rw [whole_eq c scM15 (Memref.isWhole_whole _)]; iexact S15
    isplitl [S16]
    · iexists s16; rw [whole_eq c scM16 (Memref.isWhole_whole _)]; iexact S16
    isplitl [S17]
    · iexists s17; rw [whole_eq c scM17 (Memref.isWhole_whole _)]; iexact S17
    isplitl [S18]
    · iexists s18; rw [whole_eq c scM18 (Memref.isWhole_whole _)]; iexact S18
    isplitl [S19]
    · iexists s19; rw [whole_eq c scM19 (Memref.isWhole_whole _)]; iexact S19
    isplitl [S20]
    · iexists s20; rw [whole_eq c scM20 (Memref.isWhole_whole _)]; iexact S20
    isplitl [S21]
    · iexists s21; rw [whole_eq c scM21 (Memref.isWhole_whole _)]; iexact S21
    isplitl [S22]
    · iexists s22; rw [whole_eq c scM22 (Memref.isWhole_whole _)]; iexact S22
    isplitl [S23]
    · iexists s23; rw [whole_eq c scM23 (Memref.isWhole_whole _)]; iexact S23
    isplitl [Q25]; · iexact Q25
    isplitl [Q26]; · iexact Q26
    isplitl [Q27]; · iexact Q27
    isplitl [Q28]; · iexact Q28
    isplitl [B9]; · iexact B9
    isplitl [B10]; · iexact B10
    iexists W; iexact HW
  · unfold Held
    iintro ⟨H2, H3, H4, H5, H7, H9, H10, H11, H12, H13, H14, H15, H16, H17, H18, H19, H20, H21, ⟨%s0, S0⟩, ⟨%s1, S1⟩, ⟨%s2, S2⟩, ⟨%s3, S3⟩, ⟨%s4, S4⟩, ⟨%s5, S5⟩, ⟨%s6, S6⟩, ⟨%s7, S7⟩, ⟨%s9, S9⟩, ⟨%s10, S10⟩, ⟨%s11, S11⟩, ⟨%s12, S12⟩, ⟨%s13, S13⟩, ⟨%s14, S14⟩, ⟨%s15, S15⟩, ⟨%s16, S16⟩, ⟨%s17, S17⟩, ⟨%s18, S18⟩, ⟨%s19, S19⟩, ⟨%s20, S20⟩, ⟨%s21, S21⟩, ⟨%s22, S22⟩, ⟨%s23, S23⟩, Q25, Q26, Q27, Q28, B9, B10, ⟨%W', HW⟩⟩
    isplitr [HW H2 H3 H4 H5 H7 H9 H10 H11 H12 H13 H14 H15 H16 H17 H18 H19 H20 H21]
    · isplitr [HP Q25 Q26 Q27 Q28 B9 B10]
      · isplitl [S0]
        · iexists s0; iapply (Entails.of_eq (whole_eq c scM0 (Memref.isWhole_whole _) s0)); iexact S0
        isplitl [S1]
        · iexists s1; iapply (Entails.of_eq (whole_eq c scM1 (Memref.isWhole_whole _) s1)); iexact S1
        isplitl [S2]
        · iexists s2; iapply (Entails.of_eq (whole_eq c scM2 (Memref.isWhole_whole _) s2)); iexact S2
        isplitl [S3]
        · iexists s3; iapply (Entails.of_eq (whole_eq c scM3 (Memref.isWhole_whole _) s3)); iexact S3
        isplitl [S4]
        · iexists s4; iapply (Entails.of_eq (whole_eq c scM4 (Memref.isWhole_whole _) s4)); iexact S4
        isplitl [S5]
        · iexists s5; iapply (Entails.of_eq (whole_eq c scM5 (Memref.isWhole_whole _) s5)); iexact S5
        isplitl [S6]
        · iexists s6; iapply (Entails.of_eq (whole_eq c scM6 (Memref.isWhole_whole _) s6)); iexact S6
        isplitl [S7]
        · iexists s7; iexact S7
        isplitl [S9]
        · iexists s9; iapply (Entails.of_eq (whole_eq c scM9 (Memref.isWhole_whole _) s9)); iexact S9
        isplitl [S10]
        · iexists s10; iapply (Entails.of_eq (whole_eq c scM10 (Memref.isWhole_whole _) s10)); iexact S10
        isplitl [S11]
        · iexists s11; iapply (Entails.of_eq (whole_eq c scM11 (Memref.isWhole_whole _) s11)); iexact S11
        isplitl [S12]
        · iexists s12; iapply (Entails.of_eq (whole_eq c scM12 (Memref.isWhole_whole _) s12)); iexact S12
        isplitl [S13]
        · iexists s13; iapply (Entails.of_eq (whole_eq c scM13 (Memref.isWhole_whole _) s13)); iexact S13
        isplitl [S14]
        · iexists s14; iapply (Entails.of_eq (whole_eq c scM14 (Memref.isWhole_whole _) s14)); iexact S14
        isplitl [S15]
        · iexists s15; iapply (Entails.of_eq (whole_eq c scM15 (Memref.isWhole_whole _) s15)); iexact S15
        isplitl [S16]
        · iexists s16; iapply (Entails.of_eq (whole_eq c scM16 (Memref.isWhole_whole _) s16)); iexact S16
        isplitl [S17]
        · iexists s17; iapply (Entails.of_eq (whole_eq c scM17 (Memref.isWhole_whole _) s17)); iexact S17
        isplitl [S18]
        · iexists s18; iapply (Entails.of_eq (whole_eq c scM18 (Memref.isWhole_whole _) s18)); iexact S18
        isplitl [S19]
        · iexists s19; iapply (Entails.of_eq (whole_eq c scM19 (Memref.isWhole_whole _) s19)); iexact S19
        isplitl [S20]
        · iexists s20; iapply (Entails.of_eq (whole_eq c scM20 (Memref.isWhole_whole _) s20)); iexact S20
        isplitl [S21]
        · iexists s21; iapply (Entails.of_eq (whole_eq c scM21 (Memref.isWhole_whole _) s21)); iexact S21
        isplitl [S22]
        · iexists s22; iapply (Entails.of_eq (whole_eq c scM22 (Memref.isWhole_whole _) s22)); iexact S22
        iexists s23; iapply (Entails.of_eq (whole_eq c scM23 (Memref.isWhole_whole _) s23)); iexact S23
      isplitl [HP]; · iexact HP
      isplitl [Q25 Q26 Q27 Q28]
      · isplitl [Q25]; · iexact Q25
        isplitl [Q26]; · iexact Q26
        isplitl [Q27] <;> iassumption
      isplitl [B9] <;> iassumption
    isplitl [HW]
    · iexists W'; isplitr; · ipureintro; intro x hx; exact Or.inl trivial
      iexact HW
    isplitl [H2]; · iexists _; iexact H2
    isplitl [H3]; · iexists _; iexact H3
    isplitl [H4]; · iexists _; iexact H4
    isplitl [H5]; · iexists _; iexact H5
    isplitl [H7]; · iexists _; iexact H7
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexact H19
    isplitl [H20]; · iexact H20
    iexact H21

/-- The body table's row at point `t` is the body as the kernel's text calls it there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) m c) (defs₀ (F := F)) Variants.none () Set.univ fgt := fun t => by
  rw [bigSep_W0, defs₀_row]
  dsimp only [fgt]
  exact triple_restated (sound_body m c t) rfl .rfl fun _ => .rfl

end Cert.Kernel.Hand

end
-- ==== Proof.Loop.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.Regions
public import Idealize.ShloMosaic.Lib.Pipeline.Quiescent
public import Idealize.ShloMosaic.Lib.Ring
public import Idealize.ShloMosaic.Lib.Tactic
public import Idealize.ShloMosaic.Lib.WordCmp

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- What the loop over the chunks of one block holds between two trips: the decay matrices and the projections it reads, unchanged, and
    the buffer of the chunks' results at some contents. -/
abbrev ChunkHeld (c : Dev nD) (arg15 : Memref sig .tc .vmem S448x128 .bf16) (arg37 : Memref sig .tc .vmem S512x256 .f32) (arg38 : Memref sig .tc .vmem S512x256 .f32) (arg39 : Memref sig .tc .vmem S512x512 .f32) (arg40 : Memref sig .tc .vmem S512x256 .f32) (arg43 : Memref sig .tc .vmem S512x512 .f32) (X15 : BufTy.Contents (Elt F) arg15.view.ty) (X37 : BufTy.Contents (Elt F) arg37.view.ty) (X38 : BufTy.Contents (Elt F) arg38.view.ty) (X39 : BufTy.Contents (Elt F) arg39.view.ty) (X40 : BufTy.Contents (Elt F) arg40.view.ty) : sProp 𝕄 :=
  iprop((arg15.view.loc (c : Thread nD τ) ↦[arg15.view.set]{fullShare} X15) ∗ (arg37.view.loc (c : Thread nD τ) ↦[arg37.view.set]{fullShare} X37) ∗ (arg38.view.loc (c : Thread nD τ) ↦[arg38.view.set]{fullShare} X38) ∗ (arg39.view.loc (c : Thread nD τ) ↦[arg39.view.set]{fullShare} X39) ∗ (arg40.view.loc (c : Thread nD τ) ↦[arg40.view.set]{fullShare} X40) ∗ (∃ f, arg43.view.loc (c : Thread nD τ) ↦[arg43.view.set]{fullShare} f))

set_option warn.classDefReducibility false in
set_option maxHeartbeats 4000000 in
/-- The loop over the chunks keeps `ChunkHeld`, whatever state it carries. -/
@[sl_loop] def chunkLoop (𝒱 : Variants) (c : Dev nD) (bd : Option 𝒱.V) (E : Set ℕ) (i : grid0.Coords) (arg2 : Memref sig .tc .vmem S1x512x1024 .f32) (harg2 : arg2.IsWhole) (arg3 : Memref sig .tc .vmem S1x512x1024 .f32) (harg3 : arg3.IsWhole) (arg4 : Memref sig .tc .vmem S16x1024 .f32) (harg4 : arg4.IsWhole) (arg5 : Memref sig .tc .vmem S1x1024 .f32) (harg5 : arg5.IsWhole) (arg6 : Memref sig .tc .hbm S3088x1024 .f32) (harg6 : arg6.IsWhole) (arg7 : Memref sig .tc .vmem S16x1024 .f32) (harg7 : arg7.IsWhole) (arg8 : Memref sig .tc .hbm S1024x1024 .f32) (harg8 : arg8.IsWhole) (arg9 : Memref sig .tc .vmem S1x16x256 .f32) (harg9 : arg9.IsWhole) (arg10 : Memref sig .tc .vmem S1x256 .f32) (harg10 : arg10.IsWhole) (arg11 : Memref sig .tc .vmem S1x128 .f32) (harg11 : arg11.IsWhole) (arg12 : Memref sig .tc .vmem S1x1536 .f32) (harg12 : arg12.IsWhole) (arg13 : Memref sig .tc .vmem S128x256 .bf16) (harg13 : arg13.IsWhole) (arg14 : Memref sig .tc .vmem S16x32 .bf16) (harg14 : arg14.IsWhole) (arg15 : Memref sig .tc .vmem S448x128 .bf16) (harg15 : arg15.IsWhole) (arg16 : Memref sig .tc .vmem S256x64 .i32) (harg16 : arg16.IsWhole) (arg17 : Memref sig .tc .vmem S32x4096 .f32) (harg17 : arg17.IsWhole) (arg18 : Memref sig .tc .vmem S128x1024 .f32) (harg18 : arg18.IsWhole) (arg19 : Memref sig .tc .vmem S1x512x1024 .f32) (harg19 : arg19.IsWhole) (arg20 : Memref sig .tc .vmem S32x4096 .bf16) (harg20 : arg20.IsWhole) (arg21 : Memref sig .tc .vmem S128x1024 .bf16) (harg21 : arg21.IsWhole) (arg22 : Memref sig .tc .vmem S1536x1024 .bf16) (harg22 : arg22.IsWhole) (arg23 : Memref sig .tc .vmem S1536x1024 .bf16) (harg23 : arg23.IsWhole) (arg24 : Memref sig .tc .vmem S128x1024 .bf16) (harg24 : arg24.IsWhole) (arg25 : Memref sig .tc .vmem S128x256 .bf16) (harg25 : arg25.IsWhole) (arg26 : Memref sig .tc .vmem S1024x1024 .bf16) (harg26 : arg26.IsWhole) (arg27 : Memref sig .tc .vmem S128x256 .f32) (harg27 : arg27.IsWhole) (arg28 : Memref sig .tc .vmem S8x512 .f32) (harg28 : arg28.IsWhole) (arg29 : Memref sig .tc .vmem S4x512x1024 .f32) (harg29 : arg29.IsWhole) (arg30 : DmaSems sig S4) (arg31 : Memref sig .tc .vmem S128x256 .f32) (harg31 : arg31.IsWhole) (arg32 : Memref sig .tc .vmem S128x256 .f32) (harg32 : arg32.IsWhole) (arg33 : Memref sig .tc .vmem S8x512 .f32) (harg33 : arg33.IsWhole) (arg34 : Memref sig .tc .vmem S512x1024 .bf16) (harg34 : arg34.IsWhole) (arg35 : Memref sig .tc .vmem S512x1024 .bf16) (harg35 : arg35.IsWhole) (arg36 : Memref sig .tc .vmem S512x128 .f32) (harg36 : arg36.IsWhole) (arg37 : Memref sig .tc .vmem S512x256 .f32) (harg37 : arg37.IsWhole) (arg38 : Memref sig .tc .vmem S512x256 .f32) (harg38 : arg38.IsWhole) (arg39 : Memref sig .tc .vmem S512x512 .f32) (harg39 : arg39.IsWhole) (arg40 : Memref sig .tc .vmem S512x256 .f32) (harg40 : arg40.IsWhole) (arg41 : Memref sig .tc .vmem S512x256 .f32) (harg41 : arg41.IsWhole) (arg42 : Memref sig .tc .vmem S512x256 .f32) (harg42 : arg42.IsWhole) (arg43 : Memref sig .tc .vmem S512x512 .f32) (harg43 : arg43.IsWhole) (arg44 : Memref sig .tc .vmem S512x512 .f32) (harg44 : arg44.IsWhole) (arg45 : Memref sig .tc .vmem S512x512 .bf16) (harg45 : arg45.IsWhole) (v715 : Vec F S128x256 .bf16) (v717 : FVec F S1x256 .f32) (v718 : FVec F S512x128 .bf16) (v721 : FVec F S512x128 .bf16) (v724 : FVec F S512x128 .bf16) (v727 : IVec S512x128 32) (v752 : Vec F S256x64 .i32) (X15 : BufTy.Contents (Elt F) arg15.view.ty) (X37 : BufTy.Contents (Elt F) arg37.view.ty) (X38 : BufTy.Contents (Elt F) arg38.view.ty) (X39 : BufTy.Contents (Elt F) arg39.view.ty) (X40 : BufTy.Contents (Elt F) arg40.view.ty) (init : Vec F S128x256 .f32) :
    LoopInvTy_k0_t1 (F := F) Unit ℕ (Pipeline.UD sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 harg31 arg32 harg32 arg33 harg33 arg34 harg34 arg35 harg35 arg36 harg36 arg37 harg37 arg38 harg38 arg39 harg39 arg40 harg40 arg41 harg41 arg42 harg42 arg43 harg43 arg44 harg44 arg45 harg45 v715 v717 v718 v721 v724 v727 v752 init where
  inv _ _ := ChunkHeld c arg15 arg37 arg38 arg39 arg40 arg43 X15 X37 X38 X39 X40
  step k acc := by
    have hk : k.val < 8 := Nat.lt_of_lt_of_le k.isLt k0_t1_abs.2.1
    iintro ⟨H15, H37, H38, H39, H40, ⟨%f, H43⟩⟩
    unfold k0_t1_body
    sl_exec
    sl_step
    isplitl [H15]; · iexact H15
    isplitl [H37]; · iexact H37
    isplitl [H38]; · iexact H38
    isplitl [H39]; · iexact H39
    isplitl [H40]; · iexact H40
    iexists _; iexact H43

end Cert.KernelIdeal.Hand
-- ==== Proof.Body.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.Value
public import Idealize.ShloMosaic.Lib.Pipeline.Regions
public import Idealize.ShloMosaic.Lib.Pipeline.Quiescent
public import Idealize.ShloMosaic.Lib.Ring
public import proofs.«01_k».proof.Proof.Loop
public import Idealize.ShloMosaic.Lib.Tactic
public import Idealize.ShloMosaic.Lib.WordCmp

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

abbrev hbM9 : Memref sig .tc .hbm S3088x1024 .f32 := Memref.whole main_v9
abbrev hbM10 : Memref sig .tc .hbm S1024x1024 .f32 := Memref.whole main_v10
abbrev scM0 : Memref sig .tc .vmem S1536x1024 .bf16 := Memref.whole cc0_scratch0
abbrev scM1 : Memref sig .tc .vmem S1536x1024 .bf16 := Memref.whole cc0_scratch1
abbrev scM2 : Memref sig .tc .vmem S128x1024 .bf16 := Memref.whole cc0_scratch2
abbrev scM3 : Memref sig .tc .vmem S128x256 .bf16 := Memref.whole cc0_scratch3
abbrev scM4 : Memref sig .tc .vmem S1024x1024 .bf16 := Memref.whole cc0_scratch4
abbrev scM5 : Memref sig .tc .vmem S128x256 .f32 := Memref.whole cc0_scratch5
abbrev scM6 : Memref sig .tc .vmem S8x512 .f32 := Memref.whole cc0_scratch6
abbrev scM7 : Memref sig .tc .vmem S4x512x1024 .f32 := Memref.whole cc0_scratch7
abbrev scM9 : Memref sig .tc .vmem S128x256 .f32 := Memref.whole cc0_scratch9
abbrev scM10 : Memref sig .tc .vmem S128x256 .f32 := Memref.whole cc0_scratch10
abbrev scM11 : Memref sig .tc .vmem S8x512 .f32 := Memref.whole cc0_scratch11
abbrev scM12 : Memref sig .tc .vmem S512x1024 .bf16 := Memref.whole cc0_scratch12
abbrev scM13 : Memref sig .tc .vmem S512x1024 .bf16 := Memref.whole cc0_scratch13
abbrev scM14 : Memref sig .tc .vmem S512x128 .f32 := Memref.whole cc0_scratch14
abbrev scM15 : Memref sig .tc .vmem S512x256 .f32 := Memref.whole cc0_scratch15
abbrev scM16 : Memref sig .tc .vmem S512x256 .f32 := Memref.whole cc0_scratch16
abbrev scM17 : Memref sig .tc .vmem S512x512 .f32 := Memref.whole cc0_scratch17
abbrev scM18 : Memref sig .tc .vmem S512x256 .f32 := Memref.whole cc0_scratch18
abbrev scM19 : Memref sig .tc .vmem S512x256 .f32 := Memref.whole cc0_scratch19
abbrev scM20 : Memref sig .tc .vmem S512x256 .f32 := Memref.whole cc0_scratch20
abbrev scM21 : Memref sig .tc .vmem S512x512 .f32 := Memref.whole cc0_scratch21
abbrev scM22 : Memref sig .tc .vmem S512x512 .f32 := Memref.whole cc0_scratch22
abbrev scM23 : Memref sig .tc .vmem S512x512 .bf16 := Memref.whole cc0_scratch23

/-- What the kernel body runs on: the windows' staging buffers (the inputs' at their blocks, the outputs' at some contents), the
    scratch buffers at some contents, the four transfer counters at zero, half of the projection matrix and the whole of the output matrix
    left in memory, and the receipt of waits. -/
def Held (c : Dev nD) (arg2 : Memref sig .tc .vmem S1x512x1024 .f32) (harg2 : arg2.IsWhole) (arg3 : Memref sig .tc .vmem S1x512x1024 .f32) (harg3 : arg3.IsWhole) (arg4 : Memref sig .tc .vmem S16x1024 .f32) (harg4 : arg4.IsWhole) (arg5 : Memref sig .tc .vmem S1x1024 .f32) (harg5 : arg5.IsWhole) (arg7 : Memref sig .tc .vmem S16x1024 .f32) (harg7 : arg7.IsWhole) (arg9 : Memref sig .tc .vmem S1x16x256 .f32) (harg9 : arg9.IsWhole) (arg10 : Memref sig .tc .vmem S1x256 .f32) (harg10 : arg10.IsWhole) (arg11 : Memref sig .tc .vmem S1x128 .f32) (harg11 : arg11.IsWhole) (arg12 : Memref sig .tc .vmem S1x1536 .f32) (harg12 : arg12.IsWhole) (arg13 : Memref sig .tc .vmem S128x256 .bf16) (harg13 : arg13.IsWhole) (arg14 : Memref sig .tc .vmem S16x32 .bf16) (harg14 : arg14.IsWhole) (arg15 : Memref sig .tc .vmem S448x128 .bf16) (harg15 : arg15.IsWhole) (arg16 : Memref sig .tc .vmem S256x64 .i32) (harg16 : arg16.IsWhole) (arg17 : Memref sig .tc .vmem S32x4096 .f32) (harg17 : arg17.IsWhole) (arg18 : Memref sig .tc .vmem S128x1024 .f32) (harg18 : arg18.IsWhole) (arg19 : Memref sig .tc .vmem S1x512x1024 .f32) (harg19 : arg19.IsWhole) (arg20 : Memref sig .tc .vmem S32x4096 .bf16) (harg20 : arg20.IsWhole) (arg21 : Memref sig .tc .vmem S128x1024 .bf16) (harg21 : arg21.IsWhole)
    (x2 : Vec F S1x512x1024 .f32) (x3 : Vec F S1x512x1024 .f32) (x4 : Vec F S16x1024 .f32) (x5 : Vec F S1x1024 .f32) (x7 : Vec F S16x1024 .f32) (x9 : Vec F S1x16x256 .f32) (x10 : Vec F S1x256 .f32) (x11 : Vec F S1x128 .f32) (x12 : Vec F S1x1536 .f32) (x13 : Vec F S128x256 .bf16) (x14 : Vec F S16x32 .bf16) (x15 : Vec F S448x128 .bf16) (x16 : Vec F S256x64 .i32) (x17 : Vec F S32x4096 .f32) (x18 : Vec F S128x1024 .f32)
    (f9 : Buf (Elt F) ((c : Thread nD τ).loc main_v9)) (f10 : Buf (Elt F) ((c : Thread nD τ).loc main_v10))
    (p20 : Vec F S32x4096 .bf16 → Prop) (p21 : Vec F S128x1024 .bf16 → Prop) : sProp 𝕄 :=
  iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg7 fullShare x7
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ (∃ d, owns (c : Thread nD τ) arg19 fullShare d)
        ∗ (∃ d, ⌜p20 d⌝ ∗ owns (c : Thread nD τ) arg20 fullShare d)
        ∗ (∃ d, ⌜p21 d⌝ ∗ owns (c : Thread nD τ) arg21 fullShare d)
        ∗ (∃ f, scM0.view.loc (c : Thread nD τ) ↦[scM0.view.set]{fullShare} f)
        ∗ (∃ f, scM1.view.loc (c : Thread nD τ) ↦[scM1.view.set]{fullShare} f)
        ∗ (∃ f, scM2.view.loc (c : Thread nD τ) ↦[scM2.view.set]{fullShare} f)
        ∗ (∃ f, scM3.view.loc (c : Thread nD τ) ↦[scM3.view.set]{fullShare} f)
        ∗ (∃ f, scM4.view.loc (c : Thread nD τ) ↦[scM4.view.set]{fullShare} f)
        ∗ (∃ f, scM5.view.loc (c : Thread nD τ) ↦[scM5.view.set]{fullShare} f)
        ∗ (∃ f, scM6.view.loc (c : Thread nD τ) ↦[scM6.view.set]{fullShare} f)
        ∗ (∃ f, scM7.view.loc (c : Thread nD τ) ↦{fullShare} f)
        ∗ (∃ f, scM9.view.loc (c : Thread nD τ) ↦[scM9.view.set]{fullShare} f)
        ∗ (∃ f, scM10.view.loc (c : Thread nD τ) ↦[scM10.view.set]{fullShare} f)
        ∗ (∃ f, scM11.view.loc (c : Thread nD τ) ↦[scM11.view.set]{fullShare} f)
        ∗ (∃ f, scM12.view.loc (c : Thread nD τ) ↦[scM12.view.set]{fullShare} f)
        ∗ (∃ f, scM13.view.loc (c : Thread nD τ) ↦[scM13.view.set]{fullShare} f)
        ∗ (∃ f, scM14.view.loc (c : Thread nD τ) ↦[scM14.view.set]{fullShare} f)
        ∗ (∃ f, scM15.view.loc (c : Thread nD τ) ↦[scM15.view.set]{fullShare} f)
        ∗ (∃ f, scM16.view.loc (c : Thread nD τ) ↦[scM16.view.set]{fullShare} f)
        ∗ (∃ f, scM17.view.loc (c : Thread nD τ) ↦[scM17.view.set]{fullShare} f)
        ∗ (∃ f, scM18.view.loc (c : Thread nD τ) ↦[scM18.view.set]{fullShare} f)
        ∗ (∃ f, scM19.view.loc (c : Thread nD τ) ↦[scM19.view.set]{fullShare} f)
        ∗ (∃ f, scM20.view.loc (c : Thread nD τ) ↦[scM20.view.set]{fullShare} f)
        ∗ (∃ f, scM21.view.loc (c : Thread nD τ) ↦[scM21.view.set]{fullShare} f)
        ∗ (∃ f, scM22.view.loc (c : Thread nD τ) ↦[scM22.view.set]{fullShare} f)
        ∗ (∃ f, scM23.view.loc (c : Thread nD τ) ↦[scM23.view.set]{fullShare} f)
        ∗ semVal ((c : Thread nD τ), SemLoc.dma 25) 0
        ∗ semVal ((c : Thread nD τ), SemLoc.dma 26) 0
        ∗ semVal ((c : Thread nD τ), SemLoc.dma 27) 0
        ∗ semVal ((c : Thread nD τ), SemLoc.dma 28) 0
        ∗ (hbM9.view.loc (c : Thread nD τ) ↦{fullShare.right} f9)
        ∗ (hbM10.view.loc (c : Thread nD τ) ↦{fullShare} f10)
        ∗ (∃ W, owes (c : Thread nD τ) 0 W))

/-- What the body leaves in the staging buffer of a weight's copy, read back: the cast of the weight's block. -/
theorem wrote20 (arg17 : Memref sig .tc .vmem S32x4096 .f32) (g17 : arg17.view.ty.Contents (Elt F)) (arg20 : Memref sig .tc .vmem S32x4096 .bf16) (g20 : arg20.view.ty.Contents (Elt F)) :
    arg20.view.read (Elt F) (arg20.view.writes (Elt F) g20 [⟨Rect.unit (s := S32x4096) ![0, 0] S32x4096.size inb_S32x4096_S32x4096_0_0,
      k0_pay134 (arg17.view.readAt (Elt F) (Rect.unit (s := S32x4096) ![0, 0] S32x4096.size inb_S32x4096_S32x4096_0_0).toLoadRect g17)⟩])
      = k0_pay134 (arg17.view.read (Elt F) g17) := by
  have h0 : (![0, 0] : Fin 2 → ℕ) = fun _ => 0 := by decide
  rw [View.read_writes_eq_canon _ _ _ (fun y => ⟨_, List.mem_singleton_self _, View.mem_set_unit_zero h0 inb_S32x4096_S32x4096_0_0 y⟩), View.canon_unit_zero h0]
  exact congrArg k0_pay134 (View.ld_unit_zero h0 _ _)

theorem wrote21 (arg18 : Memref sig .tc .vmem S128x1024 .f32) (g18 : arg18.view.ty.Contents (Elt F)) (arg21 : Memref sig .tc .vmem S128x1024 .bf16) (g21 : arg21.view.ty.Contents (Elt F)) :
    arg21.view.read (Elt F) (arg21.view.writes (Elt F) g21 [⟨Rect.unit (s := S128x1024) ![0, 0] S128x1024.size inb_S128x1024_S128x1024_0_0,
      k0_pay135 (arg18.view.readAt (Elt F) (Rect.unit (s := S128x1024) ![0, 0] S128x1024.size inb_S128x1024_S128x1024_0_0).toLoadRect g18)⟩])
      = k0_pay135 (arg18.view.read (Elt F) g18) := by
  have h0 : (![0, 0] : Fin 2 → ℕ) = fun _ => 0 := by decide
  rw [View.read_writes_eq_canon _ _ _ (fun y => ⟨_, List.mem_singleton_self _, View.mem_set_unit_zero h0 inb_S128x1024_S128x1024_0_0 y⟩), View.canon_unit_zero h0]
  exact congrArg k0_pay135 (View.ld_unit_zero h0 _ _)

set_option maxHeartbeats 4000000 in
theorem part22_run (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S16x1024 .f32) (harg4 : arg4.IsWhole) (arg5 : Memref sig .tc .vmem S1x1024 .f32) (harg5 : arg5.IsWhole) (arg7 : Memref sig .tc .vmem S16x1024 .f32) (harg7 : arg7.IsWhole) (arg9 : Memref sig .tc .vmem S1x16x256 .f32) (harg9 : arg9.IsWhole) (arg10 : Memref sig .tc .vmem S1x256 .f32) (harg10 : arg10.IsWhole) (arg11 : Memref sig .tc .vmem S1x128 .f32) (harg11 : arg11.IsWhole) (arg12 : Memref sig .tc .vmem S1x1536 .f32) (harg12 : arg12.IsWhole) (arg13 : Memref sig .tc .vmem S128x256 .bf16) (harg13 : arg13.IsWhole) (arg14 : Memref sig .tc .vmem S16x32 .bf16) (harg14 : arg14.IsWhole) (arg15 : Memref sig .tc .vmem S448x128 .bf16) (harg15 : arg15.IsWhole) (arg16 : Memref sig .tc .vmem S256x64 .i32) (harg16 : arg16.IsWhole) (arg17 : Memref sig .tc .vmem S32x4096 .f32) (harg17 : arg17.IsWhole) (arg18 : Memref sig .tc .vmem S128x1024 .f32) (harg18 : arg18.IsWhole) (arg19 : Memref sig .tc .vmem S1x512x1024 .f32) (harg19 : arg19.IsWhole) (arg20 : Memref sig .tc .vmem S32x4096 .bf16) (harg20 : arg20.IsWhole) (arg21 : Memref sig .tc .vmem S128x1024 .bf16) (harg21 : arg21.IsWhole)
    (x2 : Vec F S1x512x1024 .f32) (x3 : Vec F S1x512x1024 .f32) (x4 : Vec F S16x1024 .f32) (x5 : Vec F S1x1024 .f32) (x7 : Vec F S16x1024 .f32) (x9 : Vec F S1x16x256 .f32) (x10 : Vec F S1x256 .f32) (x11 : Vec F S1x128 .f32) (x12 : Vec F S1x1536 .f32) (x13 : Vec F S128x256 .bf16) (x14 : Vec F S16x32 .bf16) (x15 : Vec F S448x128 .bf16) (x16 : Vec F S256x64 .i32) (x17 : Vec F S32x4096 .f32) (x18 : Vec F S128x1024 .f32)
    (f9 : Buf (Elt F) ((c : Thread nD τ).loc main_v9)) (f10 : Buf (Elt F) ((c : Thread nD τ).loc main_v10))
    (K : _ → sProp 𝕄) :
    iprop(Held c arg2 harg2 arg3 harg3 arg4 harg4 arg5 harg5 arg7 harg7 arg9 harg9 arg10 harg10 arg11 harg11 arg12 harg12 arg13 harg13 arg14 harg14 arg15 harg15 arg16 harg16 arg17 harg17 arg18 harg18 arg19 harg19 arg20 harg20 arg21 harg21 x2 x3 x4 x5 x7 x9 x10 x11 x12 x13 x14 x15 x16 x17 x18 f9 f10 (fun _ => True) (fun _ => True)
        ∗ (∀ r, Held c arg2 harg2 arg3 harg3 arg4 harg4 arg5 harg5 arg7 harg7 arg9 harg9 arg10 harg10 arg11 harg11 arg12 harg12 arg13 harg13 arg14 harg14 arg15 harg15 arg16 harg16 arg17 harg17 arg18 harg18 arg19 harg19 arg20 harg20 arg21 harg21 x2 x3 x4 x5 x7 x9 x10 x11 x12 x13 x14 x15 x16 x17 x18 f9 f10 (· = k0_pay134 x17) (· = k0_pay135 x18) -∗ K r))
      ⊢ wp frame (wpE (defs₀ (F := F)) Variants.none c none) Set.univ
          (k0_part22 i arg2 harg2 arg3 harg3 arg4 harg4 arg5 harg5 hbM9 (Memref.isWhole_whole _) arg7 harg7 hbM10 (Memref.isWhole_whole _) arg9 harg9 arg10 harg10 arg11 harg11 arg12 harg12 arg13 harg13 arg14 harg14 arg15 harg15 arg16 harg16 arg17 harg17 arg18 harg18 arg19 harg19 arg20 harg20 arg21 harg21 scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) cc0_scratch8 scM9 (Memref.isWhole_whole _) scM10 (Memref.isWhole_whole _) scM11 (Memref.isWhole_whole _) scM12 (Memref.isWhole_whole _) scM13 (Memref.isWhole_whole _) scM14 (Memref.isWhole_whole _) scM15 (Memref.isWhole_whole _) scM16 (Memref.isWhole_whole _) scM17 (Memref.isWhole_whole _) scM18 (Memref.isWhole_whole _) scM19 (Memref.isWhole_whole _) scM20 (Memref.isWhole_whole _) scM21 (Memref.isWhole_whole _) scM22 (Memref.isWhole_whole _) scM23 (Memref.isWhole_whole _)) K := by
  rw [k0_part22_eq_skeleton]; unfold k0_part22_skel
  unfold Held owns
  iintro ⟨⟨⟨%g2, %hg2, H2⟩, ⟨%g3, %hg3, H3⟩, ⟨%g4, %hg4, H4⟩, ⟨%g5, %hg5, H5⟩, ⟨%g7, %hg7, H7⟩, ⟨%g9, %hg9, H9⟩, ⟨%g10, %hg10, H10⟩, ⟨%g11, %hg11, H11⟩, ⟨%g12, %hg12, H12⟩, ⟨%g13, %hg13, H13⟩, ⟨%g14, %hg14, H14⟩, ⟨%g15, %hg15, H15⟩, ⟨%g16, %hg16, H16⟩, ⟨%g17, %hg17, H17⟩, ⟨%g18, %hg18, H18⟩, ⟨%d19, %g19, -, H19⟩, ⟨%d20, -, %g20, -, H20⟩, ⟨%d21, -, %g21, -, H21⟩, ⟨%s0, S0⟩, ⟨%s1, S1⟩, ⟨%s2, S2⟩, ⟨%s3, S3⟩, ⟨%s4, S4⟩, ⟨%s5, S5⟩, ⟨%s6, S6⟩, ⟨%s7, S7⟩, ⟨%s9, S9⟩, ⟨%s10, S10⟩, ⟨%s11, S11⟩, ⟨%s12, S12⟩, ⟨%s13, S13⟩, ⟨%s14, S14⟩, ⟨%s15, S15⟩, ⟨%s16, S16⟩, ⟨%s17, S17⟩, ⟨%s18, S18⟩, ⟨%s19, S19⟩, ⟨%s20, S20⟩, ⟨%s21, S21⟩, ⟨%s22, S22⟩, ⟨%s23, S23⟩, Q25, Q26, Q27, Q28, B9, B10, ⟨%W, HW⟩⟩, Hk⟩
  subst hg2 hg3 hg4 hg5 hg7 hg9 hg10 hg11 hg12 hg13 hg14 hg15 hg16 hg17 hg18

  by_cases k0_h1 : Scalar.cmpi .ne (Scalar.extui (Scalar.cmpi .eq (Scalar.addi (BitVec.ofNat 32 (i 0).val) (BitVec.ofNat 32 (i 1).val)) 0#32) : BitVec 32) 0#32 = 1#1
  · set_option sl_exec.dmaWindow true in sl_exec_parts
    sl_step
    iapply Hk
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H7]
    · iexists _; isplitr; · ipureintro; rfl
      iexact H7
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; · ipureintro; rfl
      iexact H12
    isplitl [H13]
    · iexists _; isplitr; · ipureintro; rfl
      iexact H13
    isplitl [H14]
    · iexists _; isplitr; · ipureintro; rfl
      iexact H14
    isplitl [H15]
    · iexists _; isplitr; · ipureintro; rfl
      iexact H15
    isplitl [H16]
    · iexists _; isplitr; · ipureintro; rfl
      iexact H16
    isplitl [H17]
    · iexists _; isplitr; · ipureintro; rfl
      iexact H17
    isplitl [H18]
    · iexists _; isplitr; · ipureintro; rfl
      iexact H18
    isplitl [H19]
    · iexists _, _; isplitr; swap; · iexact H19
      ipureintro; rfl
    isplitl [H20]
    · iexists _; isplitr; swap
      · iexists _; isplitr; swap; · iexact H20
        ipureintro; rfl
      ipureintro; exact wrote20 _ _ _ _
    isplitl [H21]
    · iexists _; isplitr; swap
      · iexists _; isplitr; swap; · iexact H21
        ipureintro; rfl
      ipureintro; exact wrote21 _ _ _ _
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S9]; · iexists _; iexact S9
    isplitl [S10]; · iexists _; iexact S10
    isplitl [S11]; · iexists _; iexact S11
    isplitl [S12]; · iexists _; iexact S12
    isplitl [S13]; · iexists _; iexact S13
    isplitl [S14]; · iexists _; iexact S14
    isplitl [S15]; · iexists _; iexact S15
    isplitl [S16]; · iexists _; iexact S16
    isplitl [S17]; · iexists _; iexact S17
    isplitl [S18]; · iexists _; iexact S18
    isplitl [S19]; · iexists _; iexact S19
    isplitl [S20]; · iexists _; iexact S20
    isplitl [S21]; · iexists _; iexact S21
    isplitl [S22]; · iexists _; iexact S22
    isplitl [S23]; · iexists _; iexact S23
    isplitl [Q25]; · iexact Q25
    isplitl [Q26]; · iexact Q26
    isplitl [Q27]; · iexact Q27
    isplitl [Q28]; · iexact Q28
    isplitl [B9]; · iexact B9
    isplitl [B10]; · iexact B10
    iexists _; iexact HW

  · sl_exec_parts
    sl_step
    iapply Hk
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H7]
    · iexists _; isplitr; · ipureintro; rfl
      iexact H7
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; · ipureintro; rfl
      iexact H12
    isplitl [H13]
    · iexists _; isplitr; · ipureintro; rfl
      iexact H13
    isplitl [H14]
    · iexists _; isplitr; · ipureintro; rfl
      iexact H14
    isplitl [H15]
    · iexists _; isplitr; · ipureintro; rfl
      iexact H15
    isplitl [H16]
    · iexists _; isplitr; · ipureintro; rfl
      iexact H16
    isplitl [H17]
    · iexists _; isplitr; · ipureintro; rfl
      iexact H17
    isplitl [H18]
    · iexists _; isplitr; · ipureintro; rfl
      iexact H18
    isplitl [H19]
    · iexists _, _; isplitr; swap; · iexact H19
      ipureintro; rfl
    isplitl [H20]
    · iexists _; isplitr; swap
      · iexists _; isplitr; swap; · iexact H20
        ipureintro; rfl
      ipureintro; exact wrote20 _ _ _ _
    isplitl [H21]
    · iexists _; isplitr; swap
      · iexists _; isplitr; swap; · iexact H21
        ipureintro; rfl
      ipureintro; exact wrote21 _ _ _ _
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S9]; · iexists _; iexact S9
    isplitl [S10]; · iexists _; iexact S10
    isplitl [S11]; · iexists _; iexact S11
    isplitl [S12]; · iexists _; iexact S12
    isplitl [S13]; · iexists _; iexact S13
    isplitl [S14]; · iexists _; iexact S14
    isplitl [S15]; · iexists _; iexact S15
    isplitl [S16]; · iexists _; iexact S16
    isplitl [S17]; · iexists _; iexact S17
    isplitl [S18]; · iexists _; iexact S18
    isplitl [S19]; · iexists _; iexact S19
    isplitl [S20]; · iexists _; iexact S20
    isplitl [S21]; · iexists _; iexact S21
    isplitl [S22]; · iexists _; iexact S22
    isplitl [S23]; · iexists _; iexact S23
    isplitl [Q25]; · iexact Q25
    isplitl [Q26]; · iexact Q26
    isplitl [Q27]; · iexact Q27
    isplitl [Q28]; · iexact Q28
    isplitl [B9]; · iexact B9
    isplitl [B10]; · iexact B10
    iexists _; iexact HW

set_option maxHeartbeats 4000000 in
theorem body_run (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S16x1024 .f32) (harg4 : arg4.IsWhole) (arg5 : Memref sig .tc .vmem S1x1024 .f32) (harg5 : arg5.IsWhole) (arg7 : Memref sig .tc .vmem S16x1024 .f32) (harg7 : arg7.IsWhole) (arg9 : Memref sig .tc .vmem S1x16x256 .f32) (harg9 : arg9.IsWhole) (arg10 : Memref sig .tc .vmem S1x256 .f32) (harg10 : arg10.IsWhole) (arg11 : Memref sig .tc .vmem S1x128 .f32) (harg11 : arg11.IsWhole) (arg12 : Memref sig .tc .vmem S1x1536 .f32) (harg12 : arg12.IsWhole) (arg13 : Memref sig .tc .vmem S128x256 .bf16) (harg13 : arg13.IsWhole) (arg14 : Memref sig .tc .vmem S16x32 .bf16) (harg14 : arg14.IsWhole) (arg15 : Memref sig .tc .vmem S448x128 .bf16) (harg15 : arg15.IsWhole) (arg16 : Memref sig .tc .vmem S256x64 .i32) (harg16 : arg16.IsWhole) (arg17 : Memref sig .tc .vmem S32x4096 .f32) (harg17 : arg17.IsWhole) (arg18 : Memref sig .tc .vmem S128x1024 .f32) (harg18 : arg18.IsWhole) (arg19 : Memref sig .tc .vmem S1x512x1024 .f32) (harg19 : arg19.IsWhole) (arg20 : Memref sig .tc .vmem S32x4096 .bf16) (harg20 : arg20.IsWhole) (arg21 : Memref sig .tc .vmem S128x1024 .bf16) (harg21 : arg21.IsWhole)
    (x2 : Vec F S1x512x1024 .f32) (x3 : Vec F S1x512x1024 .f32) (x4 : Vec F S16x1024 .f32) (x5 : Vec F S1x1024 .f32) (x7 : Vec F S16x1024 .f32) (x9 : Vec F S1x16x256 .f32) (x10 : Vec F S1x256 .f32) (x11 : Vec F S1x128 .f32) (x12 : Vec F S1x1536 .f32) (x13 : Vec F S128x256 .bf16) (x14 : Vec F S16x32 .bf16) (x15 : Vec F S448x128 .bf16) (x16 : Vec F S256x64 .i32) (x17 : Vec F S32x4096 .f32) (x18 : Vec F S128x1024 .f32)
    (f9 : Buf (Elt F) ((c : Thread nD τ).loc main_v9)) (f10 : Buf (Elt F) ((c : Thread nD τ).loc main_v10))
    (K : _ → sProp 𝕄) :
    iprop(Held c arg2 harg2 arg3 harg3 arg4 harg4 arg5 harg5 arg7 harg7 arg9 harg9 arg10 harg10 arg11 harg11 arg12 harg12 arg13 harg13 arg14 harg14 arg15 harg15 arg16 harg16 arg17 harg17 arg18 harg18 arg19 harg19 arg20 harg20 arg21 harg21 x2 x3 x4 x5 x7 x9 x10 x11 x12 x13 x14 x15 x16 x17 x18 f9 f10 (fun _ => True) (fun _ => True)
        ∗ (Held c arg2 harg2 arg3 harg3 arg4 harg4 arg5 harg5 arg7 harg7 arg9 harg9 arg10 harg10 arg11 harg11 arg12 harg12 arg13 harg13 arg14 harg14 arg15 harg15 arg16 harg16 arg17 harg17 arg18 harg18 arg19 harg19 arg20 harg20 arg21 harg21 x2 x3 x4 x5 x7 x9 x10 x11 x12 x13 x14 x15 x16 x17 x18 f9 f10 (· = k0_pay134 x17) (· = k0_pay135 x18) -∗ K ⟨⟩))
      ⊢ wp frame (wpE (defs₀ (F := F)) Variants.none c none) Set.univ
          (cc0_gla_conv_mixer i arg2 harg2 arg3 harg3 arg4 harg4 arg5 harg5 hbM9 (Memref.isWhole_whole _) arg7 harg7 hbM10 (Memref.isWhole_whole _) arg9 harg9 arg10 harg10 arg11 harg11 arg12 harg12 arg13 harg13 arg14 harg14 arg15 harg15 arg16 harg16 arg17 harg17 arg18 harg18 arg19 harg19 arg20 harg20 arg21 harg21 scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) cc0_scratch8 scM9 (Memref.isWhole_whole _) scM10 (Memref.isWhole_whole _) scM11 (Memref.isWhole_whole _) scM12 (Memref.isWhole_whole _) scM13 (Memref.isWhole_whole _) scM14 (Memref.isWhole_whole _) scM15 (Memref.isWhole_whole _) scM16 (Memref.isWhole_whole _) scM17 (Memref.isWhole_whole _) scM18 (Memref.isWhole_whole _) scM19 (Memref.isWhole_whole _) scM20 (Memref.isWhole_whole _) scM21 (Memref.isWhole_whole _) scM22 (Memref.isWhole_whole _) scM23 (Memref.isWhole_whole _)) K := by
  rw [cc0_gla_conv_mixer_eq_skeleton]; unfold cc0_gla_conv_mixer_skel
  rw [wp_bind]
  iintro ⟨HH, Hk⟩
  iapply part22_run c i arg2 harg2 arg3 harg3 arg4 harg4 arg5 harg5 arg7 harg7 arg9 harg9 arg10 harg10 arg11 harg11 arg12 harg12 arg13 harg13 arg14 harg14 arg15 harg15 arg16 harg16 arg17 harg17 arg18 harg18 arg19 harg19 arg20 harg20 arg21 harg21 x2 x3 x4 x5 x7 x9 x10 x11 x12 x13 x14 x15 x16 x17 x18 f9 f10
  isplitl [HH]; · iexact HH
  iintro %r
  obtain ⟨v20, v22, v23, v26, v29, v30⟩ := r
  unfold Held owns
  iintro ⟨⟨%g2, %hg2, H2⟩, ⟨%g3, %hg3, H3⟩, ⟨%g4, %hg4, H4⟩, ⟨%g5, %hg5, H5⟩, ⟨%g7, %hg7, H7⟩, ⟨%g9, %hg9, H9⟩, ⟨%g10, %hg10, H10⟩, ⟨%g11, %hg11, H11⟩, ⟨%g12, %hg12, H12⟩, ⟨%g13, %hg13, H13⟩, ⟨%g14, %hg14, H14⟩, ⟨%g15, %hg15, H15⟩, ⟨%g16, %hg16, H16⟩, ⟨%g17, %hg17, H17⟩, ⟨%g18, %hg18, H18⟩, ⟨%d19, %g19, -, H19⟩, ⟨%d20, %hp20, %g20, %hg20, H20⟩, ⟨%d21, %hp21, %g21, %hg21, H21⟩, ⟨%s0, S0⟩, ⟨%s1, S1⟩, ⟨%s2, S2⟩, ⟨%s3, S3⟩, ⟨%s4, S4⟩, ⟨%s5, S5⟩, ⟨%s6, S6⟩, ⟨%s7, S7⟩, ⟨%s9, S9⟩, ⟨%s10, S10⟩, ⟨%s11, S11⟩, ⟨%s12, S12⟩, ⟨%s13, S13⟩, ⟨%s14, S14⟩, ⟨%s15, S15⟩, ⟨%s16, S16⟩, ⟨%s17, S17⟩, ⟨%s18, S18⟩, ⟨%s19, S19⟩, ⟨%s20, S20⟩, ⟨%s21, S21⟩, ⟨%s22, S22⟩, ⟨%s23, S23⟩, Q25, Q26, Q27, Q28, B9, B10, ⟨%W, HW⟩⟩
  subst hg2 hg3 hg4 hg5 hg7 hg9 hg10 hg11 hg12 hg13 hg14 hg15 hg16 hg17 hg18

  sl_exec_parts
  split
  · sl_exec_parts
    sl_step
    iapply Hk
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H7]
    · iexists _; isplitr; · ipureintro; rfl
      iexact H7
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; · ipureintro; rfl
      iexact H12
    isplitl [H13]
    · iexists _; isplitr; · ipureintro; rfl
      iexact H13
    isplitl [H14]
    · iexists _; isplitr; · ipureintro; rfl
      iexact H14
    isplitl [H15]
    · iexists _; isplitr; · ipureintro; rfl
      iexact H15
    isplitl [H16]
    · iexists _; isplitr; · ipureintro; rfl
      iexact H16
    isplitl [H17]
    · iexists _; isplitr; · ipureintro; rfl
      iexact H17
    isplitl [H18]
    · iexists _; isplitr; · ipureintro; rfl
      iexact H18
    isplitl [H19]
    · iexists _, _; isplitr; swap; · iexact H19
      ipureintro; rfl
    isplitl [H20]
    · iexists d20; isplitr; · ipureintro; exact hp20
      iexists g20; isplitr; swap; · iexact H20
      ipureintro; exact hg20
    isplitl [H21]
    · iexists d21; isplitr; · ipureintro; exact hp21
      iexists g21; isplitr; swap; · iexact H21
      ipureintro; exact hg21
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S9]; · iexists _; iexact S9
    isplitl [S10]; · iexists _; iexact S10
    isplitl [S11]; · iexists _; iexact S11
    isplitl [S12]; · iexists _; iexact S12
    isplitl [S13]; · iexists _; iexact S13
    isplitl [S14]; · iexists _; iexact S14
    isplitl [S15]; · iexists _; iexact S15
    isplitl [S16]; · iexists _; iexact S16
    isplitl [S17]; · iexists _; iexact S17
    isplitl [S18]; · iexists _; iexact S18
    isplitl [S19]; · iexists _; iexact S19
    isplitl [S20]; · iexists _; iexact S20
    isplitl [S21]; · iexists _; iexact S21
    isplitl [S22]; · iexists _; iexact S22
    isplitl [S23]; · iexists _; iexact S23
    isplitl [Q25]; · iexact Q25
    isplitl [Q26]; · iexact Q26
    isplitl [Q27]; · iexact Q27
    isplitl [Q28]; · iexact Q28
    isplitl [B9]; · iexact B9
    isplitl [B10]; · iexact B10
    iexists _; iexact HW

  · sl_exec_parts
    sl_step
    iapply Hk
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H7]
    · iexists _; isplitr; · ipureintro; rfl
      iexact H7
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; · ipureintro; rfl
      iexact H12
    isplitl [H13]
    · iexists _; isplitr; · ipureintro; rfl
      iexact H13
    isplitl [H14]
    · iexists _; isplitr; · ipureintro; rfl
      iexact H14
    isplitl [H15]
    · iexists _; isplitr; · ipureintro; rfl
      iexact H15
    isplitl [H16]
    · iexists _; isplitr; · ipureintro; rfl
      iexact H16
    isplitl [H17]
    · iexists _; isplitr; · ipureintro; rfl
      iexact H17
    isplitl [H18]
    · iexists _; isplitr; · ipureintro; rfl
      iexact H18
    isplitl [H19]
    · iexists _, _; isplitr; swap; · iexact H19
      ipureintro; rfl
    isplitl [H20]
    · iexists d20; isplitr; · ipureintro; exact hp20
      iexists g20; isplitr; swap; · iexact H20
      ipureintro; exact hg20
    isplitl [H21]
    · iexists d21; isplitr; · ipureintro; exact hp21
      iexists g21; isplitr; swap; · iexact H21
      ipureintro; exact hg21
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S9]; · iexists _; iexact S9
    isplitl [S10]; · iexists _; iexact S10
    isplitl [S11]; · iexists _; iexact S11
    isplitl [S12]; · iexists _; iexact S12
    isplitl [S13]; · iexists _; iexact S13
    isplitl [S14]; · iexists _; iexact S14
    isplitl [S15]; · iexists _; iexact S15
    isplitl [S16]; · iexists _; iexact S16
    isplitl [S17]; · iexists _; iexact S17
    isplitl [S18]; · iexists _; iexact S18
    isplitl [S19]; · iexists _; iexact S19
    isplitl [S20]; · iexists _; iexact S20
    isplitl [S21]; · iexists _; iexact S21
    isplitl [S22]; · iexists _; iexact S22
    isplitl [S23]; · iexists _; iexact S23
    isplitl [Q25]; · iexact Q25
    isplitl [Q26]; · iexact Q26
    isplitl [Q27]; · iexact Q27
    isplitl [Q28]; · iexact Q28
    isplitl [B9]; · iexact B9
    isplitl [B10]; · iexact B10
    iexists _; iexact HW

end Cert.KernelIdeal.Hand
-- ==== Proof.Region.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.Regions
public import Idealize.ShloMosaic.Lib.Pipeline.Quiescent
public import Idealize.ShloMosaic.Lib.Ring
public import proofs.«01_k».proof.Proof.Body
public import Idealize.ShloMosaic.Lib.Tactic
public import Idealize.ShloMosaic.Lib.WordCmp

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The four counters of the kernel's own transfers. -/
abbrev osem0 : Fin 4 → SemLoc sig := fun j => (![SemLoc.dma 25, SemLoc.dma 26, SemLoc.dma 27, SemLoc.dma 28] : Fin 4 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 25) 0 ∗ semVal ((c : Thread nD τ), SemLoc.dma 26) 0
          ∗ semVal ((c : Thread nD τ), SemLoc.dma 27) 0 ∗ semVal ((c : Thread nD τ), SemLoc.dma 28) 0) := by
  rw [Pipeline.ownSems0_eq_of_list c osem0 [0, 1, 2, 3] (by decide) (by decide)]; rfl

/-- What the kernel keeps from one grid point to the next: the scratch buffers at some contents, the generator register, its own
    counters at zero, the half of the projection matrix that no window holds, and the output matrix. -/
def Inv (c : Dev nD) : sProp 𝕄 :=
  iprop(Pipeline.scopedRest spec0 c ∗ (∃ r, prngReg c r) ∗ Pipeline.ownSems0 osem0 c ∗ (((c : Thread nD τ).loc main_v9) ↦{fullShare.right} V m c main_v9) ∗ (((c : Thread nD τ).loc main_v10) ↦{fullShare} V m c main_v10))

/-- The proof data with every array's whole share dealt to the windows on it. -/
def datFull (c : Dev nD) : Dat τ (Elt F) Unit ℕ (Pipeline.UD sig nD τ) ℕ cfg0 c where
  A w := V m c (Pipeline.arrRef spec0 w)
  after w t := Dat.unnamed w t
  Φ _ := Inv m c
  q w := Pipeline.shareOf spec0 w
  owed _ := 0

/-- The proof data the region runs on: the window on the projection matrix holds only half of that array; the windows on the
    MLP's weights keep their blocks, and the ones on the weights' copies leave the blocks cast. -/
def dat (c : Dev nD) : Dat τ (Elt F) Unit ℕ (Pipeline.UD sig nD τ) ℕ cfg0 c where
  A w := V m c (Pipeline.arrRef spec0 w)
  after w t := match w with
    | ⟨13, _⟩ => iblk m c 13 t
    | ⟨14, _⟩ => iblk m c 14 t
    | ⟨16, _⟩ => k0_pay134 (iblk m c 13 t)
    | ⟨17, _⟩ => k0_pay135 (iblk m c 14 t)
    | w => Dat.unnamed w t
  Φ _ := Inv m c
  q w := if w = 4 then fullShare.left else Pipeline.shareOf spec0 w
  owed _ := 0

/-- Of the windows' staging buffers, only those of the MLP's weights and of their copies are said to hold anything. -/
def fgt (w : Fin cfg0.W) : Bool := !(w.val == 13 || w.val == 14 || w.val == 16 || w.val == 17)

theorem fgt0 : fgt 0 = true := rfl
theorem fgt1 : fgt 1 = true := rfl
theorem fgt2 : fgt 2 = true := rfl
theorem fgt3 : fgt 3 = true := rfl
theorem fgt4 : fgt 4 = true := rfl
theorem fgt5 : fgt 5 = true := rfl
theorem fgt6 : fgt 6 = true := rfl
theorem fgt7 : fgt 7 = true := rfl
theorem fgt8 : fgt 8 = true := rfl
theorem fgt9 : fgt 9 = true := rfl
theorem fgt10 : fgt 10 = true := rfl
theorem fgt11 : fgt 11 = true := rfl
theorem fgt12 : fgt 12 = true := rfl
theorem fgt13 : fgt 13 = false := rfl
theorem fgt14 : fgt 14 = false := rfl
theorem fgt15 : fgt 15 = true := rfl
theorem fgt16 : fgt 16 = false := rfl
theorem fgt17 : fgt 17 = false := rfl

theorem dat_A (c : Dev nD) (w : Fin cfg0.W) : (dat m c).A w = V m c (Pipeline.arrRef spec0 w) := by dsimp only [dat]
theorem after13 (c : Dev nD) (t : Fin cfg0.N) : (dat m c).after 13 t = iblk m c 13 t := rfl
theorem after14 (c : Dev nD) (t : Fin cfg0.N) : (dat m c).after 14 t = iblk m c 14 t := rfl
theorem after16 (c : Dev nD) (t : Fin cfg0.N) : (dat m c).after 16 t = k0_pay134 (iblk m c 13 t) := rfl
theorem after17 (c : Dev nD) (t : Fin cfg0.N) : (dat m c).after 17 t = k0_pay135 (iblk m c 14 t) := rfl

/-- A weight's staging buffer holds the point's block when the body starts. -/
theorem before13 (c : Dev nD) (t : Fin cfg0.N) (d) : (dat m c).before 13 t d = iblk m c 13 t :=
  ((dat m c).before_in_eq_fetched 13 rfl (fun _ => rfl) (fun _ _ _ => rfl) (fun t => by rw [after13]; unfold Dat.blockOf iblk; rw [dat_A]; try rfl) t d).trans
    (by unfold Dat.fetched Dat.blockOf iblk; rw [dat_A]; try rfl)
theorem before14 (c : Dev nD) (t : Fin cfg0.N) (d) : (dat m c).before 14 t d = iblk m c 14 t :=
  ((dat m c).before_in_eq_fetched 14 rfl (fun _ => rfl) (fun _ _ _ => rfl) (fun t => by rw [after14]; unfold Dat.blockOf iblk; rw [dat_A]; try rfl) t d).trans
    (by unfold Dat.fetched Dat.blockOf iblk; rw [dat_A]; try rfl)

theorem shareOf4 : Pipeline.shareOf spec0 4 = fullShare := Pipeline.shareOf_eq_fullShare spec0 (by decide)

/-- A whole array held in full, split in two halves. -/
theorem half (c : Dev nD) (f : Buf (Elt F) ((c : Thread nD τ).loc main_v9)) :
    (((c : Thread nD τ).loc main_v9) ↦{fullShare} f : sProp 𝕄)
      ⊢ iprop((((c : Thread nD τ).loc main_v9) ↦{fullShare.left} f) ∗ (((c : Thread nD τ).loc main_v9) ↦{fullShare.right} f)) :=
  (pointsTo_share (PosShare.mem_left_op_right fullShare)).1

theorem sep_half (c : Dev nD) (R : sProp 𝕄) :
    iprop((((c : Thread nD τ).loc main_v9) ↦{fullShare} V m c main_v9) ∗ R)
      ⊢ iprop(((((c : Thread nD τ).loc main_v9) ↦{fullShare.left} V m c main_v9) ∗ R) ∗ (((c : Thread nD τ).loc main_v9) ↦{fullShare.right} V m c main_v9)) := by
  iintro ⟨H4, Hr⟩
  ihave H := (half c (V m c main_v9)) $$ H4
  icases H with ⟨Hl, Hh⟩
  isplitr [Hh]
  · isplitl [Hl] <;> iassumption
  · iexact Hh

theorem arr4_full (c : Dev nD) :
    ((cfg0.win 4).arr.view.loc (c.tc : Thread nD τ) ↦[(cfg0.win 4).arr.view.set]{(datFull m c).share 4} (datFull m c).A 4 : sProp 𝕄)
      = (((c : Thread nD τ).loc main_v9) ↦{fullShare} V m c main_v9) := by
  have hs : (cfg0.win 4).arr.view.set = Finset.univ := (arr_whole0 4).set_eq_univ
  have hq : (datFull m c).share 4 = fullShare := by
    unfold Dat.share datFull; dsimp only; rw [shareOf4]; exact if_neg (by decide)
  rw [hs, hq]; rfl

theorem arr4_half (c : Dev nD) :
    ((cfg0.win 4).arr.view.loc (c.tc : Thread nD τ) ↦[(cfg0.win 4).arr.view.set]{(dat m c).share 4} (dat m c).A 4 : sProp 𝕄)
      = (((c : Thread nD τ).loc main_v9) ↦{fullShare.left} V m c main_v9) := by
  have hs : (cfg0.win 4).arr.view.set = Finset.univ := (arr_whole0 4).set_eq_univ
  have hq : (dat m c).share 4 = fullShare.left := by
    unfold Dat.share dat; dsimp only; rw [if_pos rfl]; exact if_neg (by decide)
  rw [hs, hq]; rfl

theorem arr_same (c : Dev nD) (w : Fin cfg0.W) (h : w ≠ 4) :
    ((cfg0.win w).arr.view.loc (c.tc : Thread nD τ) ↦[(cfg0.win w).arr.view.set]{(datFull m c).share w} (datFull m c).A w : sProp 𝕄)
      = ((cfg0.win w).arr.view.loc (c.tc : Thread nD τ) ↦[(cfg0.win w).arr.view.set]{(dat m c).share w} (dat m c).A w) := by
  have hq : (datFull m c).share w = (dat m c).share w := by
    unfold Dat.share datFull dat; dsimp only; rw [if_neg h]
  rw [hq]; rfl

/-- The arrays held in full are the arrays as the region holds them and the other half of the projection matrix. -/
theorem arrays_lend (c : Dev nD) :
    (datFull m c).arrays (datFull m c).A ⊢ (iprop((dat m c).arrays (dat m c).A ∗ (((c : Thread nD τ).loc main_v9) ↦{fullShare.right} V m c main_v9)) : sProp 𝕄) := by
  unfold Dat.arrays
  have e : (Finset.univ : Finset (Fin cfg0.W)) = insert 4 (Finset.univ.erase 4) := (Finset.insert_erase (Finset.mem_univ _)).symm
  rw [e, BI.bigSep_insert (Finset.notMem_erase _ _), BI.bigSep_insert (Finset.notMem_erase _ _), arr4_full, arr4_half,
    BI.bigSep_congr (s := Finset.univ.erase (4 : Fin cfg0.W)) fun w hw => arr_same m c w (Finset.ne_of_mem_erase hw)]
  exact sep_half m c _

/-! ## The body at a grid point -/

/-- A scratch buffer held whole, its extent written as the set of the buffer's own view. -/
theorem whole_eq (c : Dev nD) {sp : Space} {S : Shape} {e : EltTy} (M : Memref sig .tc sp S e) (h : M.IsWhole) (f : Buf (Elt F) (M.view.loc (c : Thread nD τ))) :
    (M.view.loc (c : Thread nD τ) ↦[M.view.set]{fullShare} f : sProp 𝕄) = (M.view.loc (c : Thread nD τ) ↦{fullShare} f) := by
  rw [h.set_eq_univ]

/-- What the windows' staging buffers hold before and after the body. -/
def stagesIn (c : Dev nD) (t : Fin cfg0.N) : sProp 𝕄 :=
  iprop((∃ X, owns (c : Thread nD τ) (win0_0.stage (cfg0.slots t 0)) fullShare X)
    ∗ (∃ X, owns (c : Thread nD τ) (win0_1.stage (cfg0.slots t 1)) fullShare X)
    ∗ (∃ X, owns (c : Thread nD τ) (win0_2.stage (cfg0.slots t 2)) fullShare X)
    ∗ (∃ X, owns (c : Thread nD τ) (win0_3.stage (cfg0.slots t 3)) fullShare X)
    ∗ (∃ X, owns (c : Thread nD τ) (win0_4.stage (cfg0.slots t 4)) fullShare X)
    ∗ (∃ X, owns (c : Thread nD τ) (win0_5.stage (cfg0.slots t 5)) fullShare X)
    ∗ (∃ X, owns (c : Thread nD τ) (win0_6.stage (cfg0.slots t 6)) fullShare X)
    ∗ (∃ X, owns (c : Thread nD τ) (win0_7.stage (cfg0.slots t 7)) fullShare X)
    ∗ (∃ X, owns (c : Thread nD τ) (win0_8.stage (cfg0.slots t 8)) fullShare X)
    ∗ (∃ X, owns (c : Thread nD τ) (win0_9.stage (cfg0.slots t 9)) fullShare X)
    ∗ (∃ X, owns (c : Thread nD τ) (win0_10.stage (cfg0.slots t 10)) fullShare X)
    ∗ (∃ X, owns (c : Thread nD τ) (win0_11.stage (cfg0.slots t 11)) fullShare X)
    ∗ (∃ X, owns (c : Thread nD τ) (win0_12.stage (cfg0.slots t 12)) fullShare X)
    ∗ (∃ d, owns (c : Thread nD τ) (win0_13.stage (cfg0.slots t 13)) fullShare ((dat m c).before 13 t d))
    ∗ (∃ d, owns (c : Thread nD τ) (win0_14.stage (cfg0.slots t 14)) fullShare ((dat m c).before 14 t d))
    ∗ (∃ X, owns (c : Thread nD τ) (win0_15.stage (cfg0.slots t 15)) fullShare X)
    ∗ (∃ d, owns (c : Thread nD τ) (win0_16.stage (cfg0.slots t 16)) fullShare ((dat m c).before 16 t d))
    ∗ (∃ d, owns (c : Thread nD τ) (win0_17.stage (cfg0.slots t 17)) fullShare ((dat m c).before 17 t d)))

def stagesOut (c : Dev nD) (t : Fin cfg0.N) : sProp 𝕄 :=
  iprop((∃ X, owns (c : Thread nD τ) (win0_0.stage (cfg0.slots t 0)) fullShare X)
    ∗ (∃ X, owns (c : Thread nD τ) (win0_1.stage (cfg0.slots t 1)) fullShare X)
    ∗ (∃ X, owns (c : Thread nD τ) (win0_2.stage (cfg0.slots t 2)) fullShare X)
    ∗ (∃ X, owns (c : Thread nD τ) (win0_3.stage (cfg0.slots t 3)) fullShare X)
    ∗ (∃ X, owns (c : Thread nD τ) (win0_4.stage (cfg0.slots t 4)) fullShare X)
    ∗ (∃ X, owns (c : Thread nD τ) (win0_5.stage (cfg0.slots t 5)) fullShare X)
    ∗ (∃ X, owns (c : Thread nD τ) (win0_6.stage (cfg0.slots t 6)) fullShare X)
    ∗ (∃ X, owns (c : Thread nD τ) (win0_7.stage (cfg0.slots t 7)) fullShare X)
    ∗ (∃ X, owns (c : Thread nD τ) (win0_8.stage (cfg0.slots t 8)) fullShare X)
    ∗ (∃ X, owns (c : Thread nD τ) (win0_9.stage (cfg0.slots t 9)) fullShare X)
    ∗ (∃ X, owns (c : Thread nD τ) (win0_10.stage (cfg0.slots t 10)) fullShare X)
    ∗ (∃ X, owns (c : Thread nD τ) (win0_11.stage (cfg0.slots t 11)) fullShare X)
    ∗ (∃ X, owns (c : Thread nD τ) (win0_12.stage (cfg0.slots t 12)) fullShare X)
    ∗ owns (c : Thread nD τ) (win0_13.stage (cfg0.slots t 13)) fullShare ((dat m c).after 13 t)
    ∗ owns (c : Thread nD τ) (win0_14.stage (cfg0.slots t 14)) fullShare ((dat m c).after 14 t)
    ∗ (∃ X, owns (c : Thread nD τ) (win0_15.stage (cfg0.slots t 15)) fullShare X)
    ∗ owns (c : Thread nD τ) (win0_16.stage (cfg0.slots t 16)) fullShare ((dat m c).after 16 t)
    ∗ owns (c : Thread nD τ) (win0_17.stage (cfg0.slots t 17)) fullShare ((dat m c).after 17 t))

def bodyPre (c : Dev nD) (t : Fin cfg0.N) : sProp 𝕄 :=
  iprop((dat m c).Φ t.castSucc ∗ (dat m c).owesAt () t.castSucc ∗ stagesIn m c t)
def bodyPost (c : Dev nD) (t : Fin cfg0.N) : sProp 𝕄 :=
  iprop((dat m c).Φ t.succ ∗ (dat m c).owesAt () t.succ ∗ stagesOut m c t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 stagesIn stagesOut
  simp only [before13, before14]
  rw [after13, after14, after16, after17]
  rw [show (dat m c).Φ t.succ = Inv m c from rfl, show (dat m c).Φ t.castSucc = Inv m c from rfl]
  unfold Dat.owesAt Pipeline.owesWithin Inv
  rw [show (dat m c).owed t.castSucc = 0 from rfl, show (dat m c).owed t.succ = 0 from rfl, scopedRest0_eq, ownSems00_eq]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s9, S9⟩, ⟨%s10, S10⟩, ⟨%s11, S11⟩, ⟨%s12, S12⟩, ⟨%s13, S13⟩, ⟨%s14, S14⟩, ⟨%s15, S15⟩, ⟨%s16, S16⟩, ⟨%s17, S17⟩, ⟨%s18, S18⟩, ⟨%s19, S19⟩, ⟨%s20, S20⟩, ⟨%s21, S21⟩, ⟨%s22, S22⟩, ⟨%s23, S23⟩⟩, HP, ⟨Q25, Q26, Q27, Q28⟩, B9, B10⟩, ⟨%W, -, HW⟩, ⟨%x2, H2⟩, ⟨%x3, H3⟩, ⟨%x4, H4⟩, ⟨%x5, H5⟩, ⟨%x7, H7⟩, ⟨%x9, H9⟩, ⟨%x10, H10⟩, ⟨%x11, H11⟩, ⟨%x12, H12⟩, ⟨%x13, H13⟩, ⟨%x14, H14⟩, ⟨%x15, H15⟩, ⟨%x16, H16⟩, ⟨%d17, H17⟩, ⟨%d18, H18⟩, ⟨%x19, H19⟩, ⟨%x20, H20⟩, ⟨%x21, H21⟩⟩
  iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) x2 x3 x4 x5 x7 x9 x10 x11 x12 x13 x14 x15 x16 (iblk m c 13 t) (iblk m c 14 t) (V m c main_v9) (V m c main_v10) _)
  isplitr [HP]
  · unfold Held
    isplitl [H2]; · iexact H2
    isplitl [H3]; · iexact H3
    isplitl [H4]; · iexact H4
    isplitl [H5]; · iexact H5
    isplitl [H7]; · iexact H7
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [H20]
    · iexists _; isplitr; swap; · iexact H20
      ipureintro; trivial
    isplitl [H21]
    · iexists _; isplitr; swap; · iexact H21
      ipureintro; trivial
    isplitl [S0]
    · iexists s0; rw [whole_eq c scM0 (Memref.isWhole_whole _)]; iexact S0
    isplitl [S1]
    · iexists s1; rw [whole_eq c scM1 (Memref.isWhole_whole _)]; iexact S1
    isplitl [S2]
    · iexists s2; rw [whole_eq c scM2 (Memref.isWhole_whole _)]; iexact S2
    isplitl [S3]
    · iexists s3; rw [whole_eq c scM3 (Memref.isWhole_whole _)]; iexact S3
    isplitl [S4]
    · iexists s4; rw [whole_eq c scM4 (Memref.isWhole_whole _)]; iexact S4
    isplitl [S5]
    · iexists s5; rw [whole_eq c scM5 (Memref.isWhole_whole _)]; iexact S5
    isplitl [S6]
    · iexists s6; rw [whole_eq c scM6 (Memref.isWhole_whole _)]; iexact S6
    isplitl [S7]
    · iexists s7; iexact S7
    isplitl [S9]
    · iexists s9; rw [whole_eq c scM9 (Memref.isWhole_whole _)]; iexact S9
    isplitl [S10]
    · iexists s10; rw [whole_eq c scM10 (Memref.isWhole_whole _)]; iexact S10
    isplitl [S11]
    · iexists s11; rw [whole_eq c scM11 (Memref.isWhole_whole _)]; iexact S11
    isplitl [S12]
    · iexists s12; rw [whole_eq c scM12 (Memref.isWhole_whole _)]; iexact S12
    isplitl [S13]
    · iexists s13; rw [whole_eq c scM13 (Memref.isWhole_whole _)]; iexact S13
    isplitl [S14]
    · iexists s14; rw [whole_eq c scM14 (Memref.isWhole_whole _)]; iexact S14
    isplitl [S15]
    · iexists s15; rw [whole_eq c scM15 (Memref.isWhole_whole _)]; iexact S15
    isplitl [S16]
    · iexists s16; rw [whole_eq c scM16 (Memref.isWhole_whole _)]; iexact S16
    isplitl [S17]
    · iexists s17; rw [whole_eq c scM17 (Memref.isWhole_whole _)]; iexact S17
    isplitl [S18]
    · iexists s18; rw [whole_eq c scM18 (Memref.isWhole_whole _)]; iexact S18
    isplitl [S19]
    · iexists s19; rw [whole_eq c scM19 (Memref.isWhole_whole _)]; iexact S19
    isplitl [S20]
    · iexists s20; rw [whole_eq c scM20 (Memref.isWhole_whole _)]; iexact S20
    isplitl [S21]
    · iexists s21; rw [whole_eq c scM21 (Memref.isWhole_whole _)]; iexact S21
    isplitl [S22]
    · iexists s22; rw [whole_eq c scM22 (Memref.isWhole_whole _)]; iexact S22
    isplitl [S23]
    · iexists s23; rw [whole_eq c scM23 (Memref.isWhole_whole _)]; iexact S23
    isplitl [Q25]; · iexact Q25
    isplitl [Q26]; · iexact Q26
    isplitl [Q27]; · iexact Q27
    isplitl [Q28]; · iexact Q28
    isplitl [B9]; · iexact B9
    isplitl [B10]; · iexact B10
    iexists W; iexact HW
  · unfold Held
    iintro ⟨H2, H3, H4, H5, H7, H9, H10, H11, H12, H13, H14, H15, H16, H17, H18, H19, ⟨%x20, %e20, H20⟩, ⟨%x21, %e21, H21⟩, ⟨%s0, S0⟩, ⟨%s1, S1⟩, ⟨%s2, S2⟩, ⟨%s3, S3⟩, ⟨%s4, S4⟩, ⟨%s5, S5⟩, ⟨%s6, S6⟩, ⟨%s7, S7⟩, ⟨%s9, S9⟩, ⟨%s10, S10⟩, ⟨%s11, S11⟩, ⟨%s12, S12⟩, ⟨%s13, S13⟩, ⟨%s14, S14⟩, ⟨%s15, S15⟩, ⟨%s16, S16⟩, ⟨%s17, S17⟩, ⟨%s18, S18⟩, ⟨%s19, S19⟩, ⟨%s20, S20⟩, ⟨%s21, S21⟩, ⟨%s22, S22⟩, ⟨%s23, S23⟩, Q25, Q26, Q27, Q28, B9, B10, ⟨%W', HW⟩⟩
    isplitr [HW H2 H3 H4 H5 H7 H9 H10 H11 H12 H13 H14 H15 H16 H17 H18 H19 H20 H21]
    · isplitr [HP Q25 Q26 Q27 Q28 B9 B10]
      · isplitl [S0]
        · iexists s0; iapply (Entails.of_eq (whole_eq c scM0 (Memref.isWhole_whole _) s0)); iexact S0
        isplitl [S1]
        · iexists s1; iapply (Entails.of_eq (whole_eq c scM1 (Memref.isWhole_whole _) s1)); iexact S1
        isplitl [S2]
        · iexists s2; iapply (Entails.of_eq (whole_eq c scM2 (Memref.isWhole_whole _) s2)); iexact S2
        isplitl [S3]
        · iexists s3; iapply (Entails.of_eq (whole_eq c scM3 (Memref.isWhole_whole _) s3)); iexact S3
        isplitl [S4]
        · iexists s4; iapply (Entails.of_eq (whole_eq c scM4 (Memref.isWhole_whole _) s4)); iexact S4
        isplitl [S5]
        · iexists s5; iapply (Entails.of_eq (whole_eq c scM5 (Memref.isWhole_whole _) s5)); iexact S5
        isplitl [S6]
        · iexists s6; iapply (Entails.of_eq (whole_eq c scM6 (Memref.isWhole_whole _) s6)); iexact S6
        isplitl [S7]
        · iexists s7; iexact S7
        isplitl [S9]
        · iexists s9; iapply (Entails.of_eq (whole_eq c scM9 (Memref.isWhole_whole _) s9)); iexact S9
        isplitl [S10]
        · iexists s10; iapply (Entails.of_eq (whole_eq c scM10 (Memref.isWhole_whole _) s10)); iexact S10
        isplitl [S11]
        · iexists s11; iapply (Entails.of_eq (whole_eq c scM11 (Memref.isWhole_whole _) s11)); iexact S11
        isplitl [S12]
        · iexists s12; iapply (Entails.of_eq (whole_eq c scM12 (Memref.isWhole_whole _) s12)); iexact S12
        isplitl [S13]
        · iexists s13; iapply (Entails.of_eq (whole_eq c scM13 (Memref.isWhole_whole _) s13)); iexact S13
        isplitl [S14]
        · iexists s14; iapply (Entails.of_eq (whole_eq c scM14 (Memref.isWhole_whole _) s14)); iexact S14
        isplitl [S15]
        · iexists s15; iapply (Entails.of_eq (whole_eq c scM15 (Memref.isWhole_whole _) s15)); iexact S15
        isplitl [S16]
        · iexists s16; iapply (Entails.of_eq (whole_eq c scM16 (Memref.isWhole_whole _) s16)); iexact S16
        isplitl [S17]
        · iexists s17; iapply (Entails.of_eq (whole_eq c scM17 (Memref.isWhole_whole _) s17)); iexact S17
        isplitl [S18]
        · iexists s18; iapply (Entails.of_eq (whole_eq c scM18 (Memref.isWhole_whole _) s18)); iexact S18
        isplitl [S19]
        · iexists s19; iapply (Entails.of_eq (whole_eq c scM19 (Memref.isWhole_whole _) s19)); iexact S19
        isplitl [S20]
        · iexists s20; iapply (Entails.of_eq (whole_eq c scM20 (Memref.isWhole_whole _) s20)); iexact S20
        isplitl [S21]
        · iexists s21; iapply (Entails.of_eq (whole_eq c scM21 (Memref.isWhole_whole _) s21)); iexact S21
        isplitl [S22]
        · iexists s22; iapply (Entails.of_eq (whole_eq c scM22 (Memref.isWhole_whole _) s22)); iexact S22
        iexists s23; iapply (Entails.of_eq (whole_eq c scM23 (Memref.isWhole_whole _) s23)); iexact S23
      isplitl [HP]; · iexact HP
      isplitl [Q25 Q26 Q27 Q28]
      · isplitl [Q25]; · iexact Q25
        isplitl [Q26]; · iexact Q26
        isplitl [Q27] <;> iassumption
      isplitl [B9] <;> iassumption
    isplitl [HW]
    · iexists W'; isplitr; · ipureintro; intro x hx; exact Or.inl trivial
      iexact HW
    isplitl [H2]; · iexists _; iexact H2
    isplitl [H3]; · iexists _; iexact H3
    isplitl [H4]; · iexists _; iexact H4
    isplitl [H5]; · iexists _; iexact H5
    isplitl [H7]; · iexists _; iexact H7
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexact H17
    isplitl [H18]; · iexact H18
    isplitl [H19]; · iexact H19
    isplitl [H20]; · rw [← e20]; iexact H20
    rw [← e21]; iexact H21

/-- The body table's row at point `t` is the body as the kernel's text calls it there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) m c) (defs₀ (F := F)) Variants.none () Set.univ fgt := fun t => by
  rw [bigSep_W0, bigSep_W0, defs₀_row]
  simp only [fgt0, fgt1, fgt2, fgt3, fgt4, fgt5, fgt6, fgt7, fgt8, fgt9, fgt10, fgt11, fgt12, fgt13, fgt14, fgt15, fgt16, fgt17]
  exact triple_restated (sound_body m c t) rfl .rfl fun _ => .rfl

end Cert.KernelIdeal.Hand

end
-- ==== Proof.Launch.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.Regions
public import Idealize.ShloMosaic.Lib.Pipeline.Quiescent
public import Idealize.ShloMosaic.Lib.Ring
public import proofs.«01_k».proof.Proof.Region
public import Idealize.ShloMosaic.Lib.Tactic
public import Idealize.ShloMosaic.Lib.WordCmp

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

open Idealize.ShloMosaic.Pipeline
variable (m : (ℓ : Loc nD τ sig) → Buf (Elt F) ℓ) (ρ : Dev nD → PrngReg)

/-- The arguments that no window is on. -/
def kept : Finset (Ref sig .tc) := {main_arg2, main_arg3, main_arg5, main_arg6, main_arg7, main_arg8, main_arg9, main_arg10}

theorem kept_eq (c : Dev nD) :
    (bigSep kept (fun b => ((c : Thread nD τ).loc b) ↦{fullShare} V m c b) : sProp 𝕄)
      = iprop((((c : Thread nD τ).loc main_arg2) ↦{fullShare} V m c main_arg2) ∗ (((c : Thread nD τ).loc main_arg3) ↦{fullShare} V m c main_arg3) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7) ∗ (((c : Thread nD τ).loc main_arg8) ↦{fullShare} V m c main_arg8) ∗ (((c : Thread nD τ).loc main_arg9) ↦{fullShare} V m c main_arg9) ∗ (((c : Thread nD τ).loc main_arg10) ↦{fullShare} V m c main_arg10)) := by
  rw [BI.bigSep_eq_bigSepL_of_eq [main_arg2, main_arg3, main_arg5, main_arg6, main_arg7, main_arg8, main_arg9, main_arg10] (by decide) (by decide)]; rfl

/-- The buffers no window is on: the arguments among them and the output matrix. -/
theorem rest_split (c : Dev nD) :
    (Pipeline.unscopedRest spec0 c (V m c) : sProp 𝕄)
      ⊢ iprop((bigSep kept fun b => ((c : Thread nD τ).loc b) ↦{fullShare} V m c b) ∗ (((c : Thread nD τ).loc main_v10) ↦{fullShare} V m c main_v10)) := by
  rw [unscopedRest0_eq, kept_eq]
  iintro ⟨H_main_arg2, H_main_arg3, H_main_arg5, H_main_arg6, H_main_arg7, H_main_arg8, H_main_arg9, H_main_arg10, H_main_v0, H_main_v2, H_main_v4, H_main_v6, H_main_v8, H_main_v10⟩
  isplitr [H_main_v10]
  · isplitl [H_main_arg2]; · iexact H_main_arg2
    isplitl [H_main_arg3]; · iexact H_main_arg3
    isplitl [H_main_arg5]; · iexact H_main_arg5
    isplitl [H_main_arg6]; · iexact H_main_arg6
    isplitl [H_main_arg7]; · iexact H_main_arg7
    isplitl [H_main_arg8]; · iexact H_main_arg8
    isplitl [H_main_arg9]; · iexact H_main_arg9
    iexact H_main_arg10
  · iexact H_main_v10

/-- The arrays as the region takes them, both halves of the projection matrix told apart, out of the core's buffers. -/
theorem entry_split (c : Dev nD) :
    (unscopedBufs c (V m c) : sProp 𝕄)
      ⊢ iprop((dat m c).arrays (dat m c).A ∗ (((c : Thread nD τ).loc main_v9) ↦{fullShare.right} V m c main_v9)
          ∗ (((c : Thread nD τ).loc main_v10) ↦{fullShare} V m c main_v10)
          ∗ (bigSep kept fun b => ((c : Thread nD τ).loc b) ↦{fullShare} V m c b)) := by
  have h1 := unscopedBufs_split₀ (Ix := Unit) (Name := ℕ) (U := Pipeline.UD sig nD τ) (Lvl := ℕ) cfgs 0 winFacts₀0.arr_unscoped c (V m c)
  have h2 : (arrBufs spec0 c (V m c) : sProp 𝕄) ⊢ (datFull m c).arrays (datFull m c).A :=
    Dat.arrays_split_shared (datFull m c) sharedIn0 arr_whole0 (fun w _ => rfl) (V m c) _ (fun w => rfl)
  rw [show (unscopedBufs c (V m c) : sProp 𝕄) = _ from h1]
  iintro ⟨Hb, Hr⟩
  ihave H := (h2.trans (arrays_lend m c)) $$ Hb
  icases H with ⟨Ha, H9⟩
  ihave H := (rest_split m c) $$ Hr
  icases H with ⟨Hk, H10⟩
  isplitl [Ha]; · iexact Ha
  isplitl [H9]; · iexact H9
  isplitl [H10] <;> iassumption

/-- Every counter a core has is one a kernel's region takes and gives back. -/
theorem scoped_all : ∀ s : SemLoc sig, s.isScoped .tc = true := by decide

abbrev pcs : Fin 1 → PCfg sig Λ₀ (Elt F) := fun q => (cfgs q).toPCfg (Val := Elt F)
abbrev adm : (q : Fin 1) → (pcs (F := F) q).Adm := fun q => (cfgs q).toPCfg_adm
abbrev lev : GSem nD τ sig → Finset Unit := fun _ => ∅
abbrev lv0 : GSem nD τ sig → Unit → ℕ := fun _ _ => 0

def rdats (p : Fin 1) (c : Dev nD) : RDat τ (Elt F) Unit ℕ (Pipeline.UD sig nD τ) ℕ (pin (pcs (F := F)) adm p) c :=
  match p with | ⟨0, _⟩ => (dat m c).toRForget fgt

/-- The core's buffers at launch and when the region is entered. -/
abbrev V₀ (c : Dev nD) : Valuation τ sig (Elt F) := StableHlo.launchContents m c
abbrev V₁ (c : Dev nD) : Valuation τ sig (Elt F) := StableHlo.after hostOps0 (V₀ m c)

abbrev R₀ (c : Dev nD) : sProp 𝕄 := iprop(prngReg c (ρ c) ∗ owes (c.tc : Thread nD τ) (0 : CellTallies nD τ sig Unit) ∅)

set_option backward.isDefEq.respectTransparency.types false in
def seg0 : HostSeg (Name := ℕ) (U := Pipeline.UD sig nD τ) (pcs (F := F)) defs₀ Variants.none lev lv0 :=
  HostSeg.ofOps (pcs (F := F)) defs₀ Variants.none lev lv0 (ucRefs τ sig) hostOps0
    (fun op h => sub_ucRefs op ((List.forall_iff_forall_mem.mp hostOps0_sub) op h))
    (fun op h => (List.forall_iff_forall_mem.mp hostOps0_fresh) op h) (V₀ m) (R₀ ρ)

/-- What the core ends with: the arrays after every grid point, and the arguments no window is on. -/
def last (c : Dev nD) : sProp 𝕄 :=
  iprop((rdats m 0 c).arraysAt cfg0.N ∗ (bigSep kept fun b => ((c : Thread nD τ).loc b) ↦{fullShare} V m c b))

set_option maxHeartbeats 2000000 in
set_option backward.isDefEq.respectTransparency.types false in
def reg0 : RDat.RegionSeg (pcs (F := F)) adm (rdats m) () defs₀ Variants.none lev lv0 0 where
  win := winFacts₀0
  block_pos := block_pos0
  stage_whole := stage_whole0
  K := Fin 4
  osem := osem0
  ho := ownSemFacts0
  hbody := fun c => (body_obligation m c).toRForget
  hwaits := RDat.hwaits_of_owed_zero (pcs (F := F)) adm (rdats m) () lev lv0 0 fun _ _ => rfl
  pre := fun c => iprop(StableHlo.held (c.tc : Thread nD τ) (ucRefs τ sig) (V₁ m c) ∗ R₀ ρ c)
  post := fun c => iprop(last m c ∗ ∃ W, owes (c.tc : Thread nD τ) (0 : CellTallies nD τ sig Unit) W)
  X := fun c => iprop((∃ r, prngReg c r) ∗ Pipeline.ownSems0 osem0 c ∗ (((c : Thread nD τ).loc main_v9) ↦{fullShare.right} V m c main_v9)
      ∗ (((c : Thread nD τ).loc main_v10) ↦{fullShare} V m c main_v10))
  Y := fun c => iprop(emp)
  Z := fun c => bigSep kept fun b => ((c : Thread nD τ).loc b) ↦{fullShare} V m c b
  hentry := fun c => by
    rw [show StableHlo.held (c.tc : Thread nD τ) (ucRefs τ sig) (V₁ m c) = unscopedBufs c (V m c)
        from (unscopedBufs_held (Ix := Unit) (Name := ℕ) (U := Pipeline.UD sig nD τ) (Lvl := ℕ) c (V₁ m c)).symm]
    iintro ⟨⟨Hub, Hp, HO⟩, Hs, -⟩
    ihave H := (entry_split m c) $$ Hub
    icases H with ⟨Ha, H9, H10, Hk⟩
    imodintro
    isplitl [Ha]
    · iapply (show ((dat m c).arrays (dat m c).A : sProp 𝕄) ⊢ (rdats m 0 c).arrays (rdats m 0 c).A from .rfl)
      iexact Ha
    isplitr
    · unfold prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · iexists ∅; isplitr; · ipureintro; simp
      iexact HO
    isplitl [Hp Hs H9 H10]
    · isplitl [Hp]; · iexists _; iexact Hp
      isplitl [Hs]; · iexact Hs
      isplitl [H9] <;> iassumption
    iexact Hk
  hin := fun c => by
    refine (show _ ⊢ Inv m c from ?_)
    unfold Inv
    iintro ⟨⟨Hp, Hs, H9, H10⟩, -, Hr⟩
    isplitl [Hr]; · iexact Hr
    isplitl [Hp]; · iexact Hp
    isplitl [Hs]; · iexact Hs
    isplitl [H9] <;> iassumption
  hout := fun c => by
    refine (show Inv m c ⊢ _ from ?_)
    unfold Inv
    iintro ⟨Hr, -, Hs, -, -⟩
    isplitr; · iempintro
    isplitl [Hs] <;> iassumption
  hexit := fun c => by
    unfold last
    iintro ⟨Ha, ⟨%W, -, HO⟩, -, Hk⟩
    imodintro
    isplitl [Ha Hk]
    · isplitl [Ha] <;> iassumption
    iexists W; iexact HO

/-- What a final memory holds at core `c`'s arguments. -/
def Kept (c : Dev nD) (s : MemSt nD τ sig (Elt F)) : Prop :=
  (∀ w, (rdats m 0 c).ArrAt w cfg0.N (s.mem ((spec0 w).arr.view.loc (c.tc : Thread nD τ))))
    ∧ ∀ b ∈ kept, s.mem ((c.tc : Thread nD τ).loc b) = V m c b

theorem kept_window (c : Dev nD) (s : MemSt nD τ sig (Elt F)) (h : Kept m c s) (w : Fin cfg0.W) (hin : (cfg0.win w).isOut = false) :
    s.mem ((spec0 w).arr.view.loc (c.tc : Thread nD τ)) = V m c (arrRef spec0 w) := by
  have h1 := h.1 w
  rw [(rdats m 0 c).ArrAt_in w hin] at h1
  exact h1

set_option maxHeartbeats 2000000 in
set_option backward.isDefEq.respectTransparency.types false in
/-- Every run ends, every counter at zero and every core's arguments as the launch had them. -/
theorem run_kept : θ_run (defs (F := F)) (onTc (τ := τ) (main (F := F))) ⟨m, fun _ => 0, ρ⟩
    (fun r => (∀ c : Dev nD, Kept m c r.2) ∧ r.2.sem = fun _ => 0) := by
  classical
  refine RDat.θ_run_regions_kit_sems (pcs (F := F)) adm (rdats m) () cellOf_inj embL defs₀ Variants.none lev lv0 m ρ main
    [.host (seg0 m ρ), .region (reg0 m ρ)]
    (fun c Q => by rw [main_chain c, RDat.Seg.run_eq_chain]; exact .rfl)
    (by simp only [RDat.Seg.pipes_host, RDat.Seg.pipes_region, RDat.Seg.pipes_nil]; exact List.nodup_singleton _)
    (O₀ := 0) (hL := fun _ _ => rfl)
    (G := fun _ => iprop(emp)) (u₀ := (initOf (cells (pin (pcs (F := F)) adm) cellOf_inj) (launchToks (pin (pcs (F := F)) adm) cellOf_inj), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (ucRefs τ sig) (V₀ m c) ∗ R₀ ρ c))
    (Tₙ := fun c => last m c)
    (hch := ⟨fun _ => .rfl, fun _ => .rfl, fun _ => .rfl⟩)
    (hinit := by
      refine initEach lev lv0 fun c => ?_
      rw [show unscopedBufs c (fun b => m ((c.tc : Thread nD τ).loc b)) = StableHlo.held (c.tc : Thread nD τ) (ucRefs τ sig) (V₀ m c)
          from unscopedBufs_held (Ix := Unit) (Name := ℕ) (U := Pipeline.UD sig nD τ) (Lvl := ℕ) c (V₀ m c)]
      iintro ⟨⟨Hh, -, HO, -, Hp, -⟩, -⟩
      imodintro
      isplitl [Hh]; · iexact Hh
      isplitl [Hp] <;> iassumption)
    (QY := fun c s => Kept m c s)
    (hfin := fun c s' => by
      unfold last Kept
      iintro ⟨⟨Ha, Hk⟩, HSI⟩
      ihave H1 := (RDat.arrays_read (pcs (F := F)) adm (rdats m) (p := 0) arr_whole0 c cfg0.N s') $$ [Ha HSI]
      · isplitl [Ha] <;> iassumption
      icases H1 with ⟨%h1, HSI⟩
      ihave H2 := (pointsTo_read_all kept (fun b => (c.tc : Thread nD τ).loc b) (V m c) s') $$ [Hk HSI]
      · isplitl [Hk] <;> iassumption
      icases H2 with ⟨%h2, HSI⟩
      imodintro
      isplitr
      · ipureintro; exact ⟨h1, h2⟩
      · iexact HSI)
    (hQ := fun s h hz => ⟨h, funext fun g' => hz g' (by
      by_cases hg : g'.1.2 = .tc
      · exact .inr (scoped_all g'.2)
      · exact .inl hg)⟩)

/-- The kernel's frame: every run ends, leaves every argument as it was and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨
    (kept_window m c r.2 (h.1 c) 0 rfl).trans (V_main_arg0 m c),
    (kept_window m c r.2 (h.1 c) 2 rfl).trans (V_main_arg1 m c),
    ((h.1 c).2 main_arg2 (by decide)).trans (V_main_arg2 m c),
    ((h.1 c).2 main_arg3 (by decide)).trans (V_main_arg3 m c),
    (kept_window m c r.2 (h.1 c) 5 rfl).trans (V_main_arg4 m c),
    ((h.1 c).2 main_arg5 (by decide)).trans (V_main_arg5 m c),
    ((h.1 c).2 main_arg6 (by decide)).trans (V_main_arg6 m c),
    ((h.1 c).2 main_arg7 (by decide)).trans (V_main_arg7 m c),
    ((h.1 c).2 main_arg8 (by decide)).trans (V_main_arg8 m c),
    ((h.1 c).2 main_arg9 (by decide)).trans (V_main_arg9 m c),
    ((h.1 c).2 main_arg10 (by decide)).trans (V_main_arg10 m c)⟩, h.2⟩) (run_kept m ρ)

end Cert.KernelIdeal.Hand

end
-- ==== Proof.Weights.lean ====
/- The mixer call also hands the MLP call its two weight matrices, cast to bf16. Each grid point casts one block of rows of
   each; the blocks of the copies tile the two result arrays, so these end as the casts of the whole matrices. -/
module

public import proofs.«01_k».proof.Defs
public import proofs.«01_k».proof.Proof.Launch
public import Idealize.ShloMosaic.Lib.Pipeline.ValueKit
public import Idealize.ShloMosaic.Lib.ValueIdx
public import Idealize.ShloMosaic.Lib.ValueLayout

@[expose] public section

noncomputable section

/-! ## The copies -/

namespace Cert.KernelIdeal.Weights

open Cert.KernelIdeal Cert.KernelIdeal.Gen Cert.KernelIdeal.Hand Idealize.ShloMosaic.TcCoe Idealize.ShloMosaic.ValueIdx
open Idealize.ShloMosaic hiding ix1 ix2
open Idealize.SL.Sem

variable (m : (ℓ : Loc nD τ sig) → Buf (Elt Ideal) ℓ) (ρ : Dev nD → PrngReg)

/-- A weight's window and its copy's lie at the same rows. -/
theorem idx_up : ∀ t : Fin cfg0.N, win0_13.index t = win0_16.index t := (by decide +kernel : ∀ t : Fin grid0.N, win0_13.index t = win0_16.index t)
theorem idx_down : ∀ t : Fin cfg0.N, win0_14.index t = win0_17.index t := (by decide +kernel : ∀ t : Fin grid0.N, win0_14.index t = win0_17.index t)

/-- The weights as the region finds them: the arguments without their leading axis. -/
theorem entry_up (c : Dev nD) : (V m c main_v11 : S1024x4096.Idx → EReal)
    = shapeCast S1024x4096 (m ((c : Thread nD τ).loc main_arg9) : S1x1024x4096.Idx → EReal) shapeCasts_S1x1024x4096_S1024x4096 := by
  entry_read; rfl
theorem entry_down (c : Dev nD) : (V m c main_v12 : S4096x1024.Idx → EReal)
    = shapeCast S4096x1024 (m ((c : Thread nD τ).loc main_arg10) : S1x4096x1024.Idx → EReal) shapeCasts_S1x4096x1024_S4096x1024 := by
  entry_read; rfl

theorem pay_up (x : Vec Ideal S32x4096 .f32) (y : S32x4096.Idx) : k0_pay134 x y = x y := by
  show shapeCast S32x4096 x shapeCasts_S32x4096_S32x4096 y = x y
  rw [shapeCast_self]
theorem pay_down (x : Vec Ideal S128x1024 .f32) (y : S128x1024.Idx) : k0_pay135 x y = x y := by
  show shapeCast S128x1024 x shapeCasts_S128x1024_S128x1024 y = x y
  rw [shapeCast_self]

/-- The array of the first copy after the run. -/
theorem final_up (c : Dev nD) : (dat m c).arrAt 16 cfg0.N = (V m c main_v11 : S1024x4096.Idx → EReal) := by
  refine (dat m c).arrAt_eq_of_covers 16 _ (by decide +kernel) fun t hf y => ?_
  rw [after16]
  refine (pay_up _ _).trans ?_
  blk_ext [iblk, idx_up t]

/-- The array of the second copy after the run. -/
theorem final_down (c : Dev nD) : (dat m c).arrAt 17 cfg0.N = (V m c main_v12 : S4096x1024.Idx → EReal) := by
  refine (dat m c).arrAt_eq_of_covers 17 _ (by decide +kernel) fun t hf y => ?_
  rw [after17]
  refine (pay_down _ _).trans ?_
  blk_ext [iblk, idx_down t]

/-- What a final memory holds at the copies. -/
theorem kept_up (c : Dev nD) (s : MemSt nD τ sig (Elt Ideal)) (h : Kept m c s) :
    s.mem ((c.tc : Thread nD τ).loc main_v13_1)
      = shapeCast S1024x4096 (m ((c : Thread nD τ).loc main_arg9) : S1x1024x4096.Idx → EReal) shapeCasts_S1x1024x4096_S1024x4096 :=
  (((dat m c).toRForget_arrAt_iff fgt16 _ _).mp (h.1 16)).trans ((final_up m c).trans (entry_up m c))
theorem kept_down (c : Dev nD) (s : MemSt nD τ sig (Elt Ideal)) (h : Kept m c s) :
    s.mem ((c.tc : Thread nD τ).loc main_v13_2)
      = shapeCast S4096x1024 (m ((c : Thread nD τ).loc main_arg10) : S1x4096x1024.Idx → EReal) shapeCasts_S1x4096x1024_S4096x1024 :=
  (((dat m c).toRForget_arrAt_iff fgt17 _ _).mp (h.1 17)).trans ((final_down m c).trans (entry_down m c))

end Cert.KernelIdeal.Weights

/-! ## The claim -/

namespace Cert.WeightsCast

open Idealize.ShloMosaic Idealize.SL.Sem

theorem facts : Cert.Post_weights_cast.Facts where
  shapeCasts_S1x1024x4096_S1024x4096 := by decide
  bitsLt_bf16_f32 := by decide
  shapeCasts_S1x4096x1024_S4096x1024 := by decide

/-- Numbers compared with themselves are equal. -/
theorem eq_self {S : Shape} (x : FVec Ideal S .bf16) : cmpf .oeq x x = fun _ => 1#1 := by
  funext j
  show Ideal.cmp .oeq (x j) (x j) = 1#1
  simp [Ideal.cmp]

/-- The mixer call leaves the MLP's weights cast. -/
theorem holds : Cert.holds_KernelIdeal_weights_cast (hPost_weights_cast := facts) := by
  intro m g _
  refine (θ_run Cert.KernelIdeal.defs _ _).mono (fun r h c => ?_)
    (θ_run_and (Cert.KernelIdeal.Hand.run_kept (F := Ideal) m g) (Cert.KernelIdeal.Hand.frame (F := Ideal) m g))
  obtain ⟨⟨hk, -⟩, hf, -⟩ := h
  obtain ⟨h0, h1, h2, h3, h4, h5, h6, h7, h8, h9, h10⟩ := hf c
  refine ⟨h0, h1, h2, h3, h4, h5, h6, h7, h8, h9, h10, ?_, ?_⟩
  · rw [Cert.KernelIdeal.Weights.kept_up m c r.2 (hk c)]
    exact eq_self (S := Cert.KernelIdeal.S1024x4096) _
  · rw [Cert.KernelIdeal.Weights.kept_down m c r.2 (hk c)]
    exact eq_self (S := Cert.KernelIdeal.S4096x1024) _

end Cert.WeightsCast

end
-- ==== Proof.MlpRows.lean ====
/- The MLP call at the ideal instance, row by row. `Spec` states in plain sums what one row of the result is: the row's
   RMS norm, the squared-ReLU MLP over all 4096 hidden units, the residual, the final RMS norm. The kernel works on 256
   rows at a time and takes the hidden units in four blocks of 1024; `rows_apply` reads that computation at a row and
   column and finds the specification, the four partial sums joined into one. -/
module

public import proofs.«01_k».proof.Proof.Gen.MlpIdeal.Value
public import Idealize.ShloMosaic.Lib.Pipeline.ValueKit
public import Idealize.ShloMosaic.Lib.MatmulPlain
public import Idealize.ShloMosaic.Lib.ValueIdx
public import Idealize.ShloMosaic.Lib.ValueLayout
public import Idealize.ShloMosaic.Lib.ValueLayoutCasts

@[expose] public section

noncomputable section

/-! ## The specification of one row -/

namespace Cert.MlpSpec

open Idealize.ShloMosaic

/-- The RMS norm of a row of 1024 entries with weights `w`, at column `k`. -/
def rowNorm (x w : Fin 1024 → EReal) (k : Fin 1024) : EReal :=
  x k * Ideal.rsqrt (Ideal.div (∑ j, x j * x j) (Ideal.ofBits .f32 0x44800000#32) + Ideal.ofBits .f32 0x358637BD#32) * w k

/-- One hidden unit: the rectified product of the normalized row and that unit's column of weights, squared. -/
def unit (h u : Fin 1024 → EReal) : EReal := max (∑ k, h k * u k) 0 * max (∑ k, h k * u k) 0

/-- The row before the final norm: the row itself plus the MLP of its norm. -/
def rowSum (x w : Fin 1024 → EReal) (U : Fin 1024 → Fin 4096 → EReal) (D : Fin 4096 → Fin 1024 → EReal) (k : Fin 1024) : EReal :=
  x k + ∑ f : Fin 4096, unit (rowNorm x w) (fun j => U j f) * D f k

/-- One row of the result. -/
def row (x w : Fin 1024 → EReal) (U : Fin 1024 → Fin 4096 → EReal) (D : Fin 4096 → Fin 1024 → EReal) (fw : Fin 1024 → EReal)
    (k : Fin 1024) : EReal := rowNorm (rowSum x w U D) fw k

/-- A sum over the 4096 hidden units is the four sums over blocks of 1024, added in order to zero. -/
theorem sum_blocks (g : Fin 4096 → EReal) :
    0 + (∑ f : Fin 1024, g ⟨f.val, by omega⟩) + (∑ f : Fin 1024, g ⟨1024 + f.val, by omega⟩)
      + (∑ f : Fin 1024, g ⟨2048 + f.val, by omega⟩) + (∑ f : Fin 1024, g ⟨3072 + f.val, by omega⟩) = ∑ f, g f := by
  have e : ∑ f, g f = (∑ f : Fin 1024, g ⟨f.val, by omega⟩) + ((∑ f : Fin 1024, g ⟨1024 + f.val, by omega⟩)
      + ((∑ f : Fin 1024, g ⟨2048 + f.val, by omega⟩) + (∑ f : Fin 1024, g ⟨3072 + f.val, by omega⟩))) := by
    refine (Fin.sum_univ_add (a := 1024) (b := 3072) g).trans (congrArg₂ (· + ·) rfl ?_)
    refine (Fin.sum_univ_add (a := 1024) (b := 2048) fun i => g (Fin.natAdd 1024 i)).trans (congrArg₂ (· + ·) rfl ?_)
    refine (Fin.sum_univ_add (a := 1024) (b := 1024) fun i => g (Fin.natAdd 1024 (Fin.natAdd 1024 i))).trans
      (congrArg₂ (· + ·) (Finset.sum_congr rfl fun f _ => congrArg g (Fin.ext ?_))
        (Finset.sum_congr rfl fun f _ => congrArg g (Fin.ext ?_)))
    · show 1024 + (1024 + f.val) = 2048 + f.val; omega
    · show 1024 + (1024 + (1024 + f.val)) = 3072 + f.val; omega
  rw [e, zero_add, add_assoc, add_assoc]

end Cert.MlpSpec

/-! ## The kernel's computation on 256 rows -/

namespace Cert.MlpIdeal.Rows

open Cert.MlpIdeal Cert.MlpIdeal.Gen Idealize.ShloMosaic.TcCoe Idealize.ShloMosaic.ValueIdx
open Idealize.ShloMosaic hiding ix1 ix2 mulf_apply addf_apply

/-- The RMS norm of 256 rows. -/
def norm (x : FVec Ideal S256x1024 .f32) (w : FVec Ideal S1x1024 .f32) : FVec Ideal S256x1024 .f32 :=
  mulf (mulf x (broadcastTo S256x1024 (rsqrt (addf (divf (shapeCast S256x1 (multiReduction .add [1] S256 (mulf x x)
    0x00000000#32 reduces_S256x1024_S256 (.inl rfl) rfl) shapeCasts_S256_S256x1)
    (broadcast S256x1 (Scalar.ofBits .f32 0x44800000#32))) (broadcast S256x1 (Scalar.ofBits .f32 0x358637BD#32))))
    broadcasts_S256x1_S256x1024)) (broadcastTo S256x1024 w broadcasts_S1x1024_S256x1024)

/-- One block of 1024 hidden units added to what the earlier blocks gave. -/
def block (h : FVec Ideal S256x1024 .bf16) (acc : FVec Ideal S256x1024 .f32) (U D : FVec Ideal S1024x1024 .bf16) :
    FVec Ideal S256x1024 .f32 :=
  let z : FVec Ideal S256x1024 .f32 := maximumf (matmul dot_S256x1024_S1024x1024_S256x1024_1_0_0_1_n_n none h U
    (constant S256x1024 .f32 0x00000000#32)) (broadcast S256x1024 (Scalar.ofBits .f32 0x00000000#32))
  addf acc (matmul dot_S256x1024_S1024x1024_S256x1024_1_0_0_1_n_n none (truncf .bf16 (mulf z z) bitsLt_bf16_f32) D
    (constant S256x1024 .f32 0x00000000#32))

/-- What the kernel stores for 256 rows, from the four blocks of each weight. -/
def rows (x : FVec Ideal S256x1024 .f32) (w : FVec Ideal S1x1024 .f32) (U0 U1 U2 U3 D0 D1 D2 D3 : FVec Ideal S1024x1024 .bf16)
    (fw : FVec Ideal S1x1024 .f32) : FVec Ideal S256x1024 .f32 :=
  let h : FVec Ideal S256x1024 .bf16 := truncf .bf16 (norm x w) bitsLt_bf16_f32
  norm (addf x (block h (block h (block h (block h (broadcast S256x1024 (Scalar.ofBits .f32 0x00000000#32)) U0 D0) U1 D1) U2 D2) U3 D3)) fw

/-- The index a broadcast along the lanes reads. -/
theorem lift_eq (r : Fin 256) (k : Fin 1024) : reduces_S256x1024_S256.lift (ix1 r) k = ix2 r k := by
  funext a; match a with | ⟨0, _⟩ => rfl | ⟨1, _⟩ => rfl

/-- The norm of 256 rows, read at a row and column. -/
theorem norm_apply (x : FVec Ideal S256x1024 .f32) (w : FVec Ideal S1x1024 .f32) (r : Fin 256) (k : Fin 1024) :
    norm x w (ix2 r k) = MlpSpec.rowNorm (fun j => x (ix2 r j)) (fun j => w (ix2 0 j)) k := by
  have e1 : broadcastTo S256x1024 w broadcasts_S1x1024_S256x1024 (ix2 r k) = w (ix2 0 k) :=
    broadcastTo_apply w _ _ _ fun a => by match a with | ⟨0, _⟩ => rfl | ⟨1, _⟩ => rfl
  have e2 (v : FVec Ideal S256x1 .f32) : broadcastTo S256x1024 v broadcasts_S256x1_S256x1024 (ix2 r k) = v (ix2 r 0) :=
    broadcastTo_apply v _ _ _ fun a => by match a with | ⟨0, _⟩ => rfl | ⟨1, _⟩ => rfl
  have e3 : multiReduction .add [1] S256 (mulf x x) 0x00000000#32 reduces_S256x1024_S256 (.inl rfl) rfl (ix1 r)
      = ∑ j : Fin 1024, x (ix2 r j) * x (ix2 r j) :=
    (Ideal.multiReduction_add_single _ _ _ _ _ _).trans (Finset.sum_congr rfl fun j _ =>
      congrArg₂ (fun a b : EReal => a * b) (congrArg x (lift_eq r j)) (congrArg x (lift_eq r j)))
  unfold norm MlpSpec.rowNorm
  rw [mulf_apply, mulf_apply, e1, e2]
  show x (ix2 r k) * Ideal.rsqrt (Ideal.div (shapeCast S256x1 _ shapeCasts_S256_S256x1 (ix2 r 0)) _ + _) * _ = _
  rw [shapeCast_a_a1_apply, e3]
  rfl

/-- One block of hidden units, read at a row and column. -/
theorem block_apply (h : FVec Ideal S256x1024 .bf16) (acc : FVec Ideal S256x1024 .f32) (U D : FVec Ideal S1024x1024 .bf16)
    (r : Fin 256) (k : Fin 1024) :
    block h acc U D (ix2 r k)
      = acc (ix2 r k) + ∑ f : Fin 1024, MlpSpec.unit (fun j => h (ix2 r j)) (fun j => U (ix2 j f)) * D (ix2 f k) := by
  have e (lhs : FVec Ideal S256x1024 .bf16) (rhs : FVec Ideal S1024x1024 .bf16) (q : Fin 1024) :
      matmul dot_S256x1024_S1024x1024_S256x1024_1_0_0_1_n_n none lhs rhs (constant S256x1024 .f32 0x00000000#32) (ix2 r q)
        = ∑ j : Fin 1024, lhs (ix2 r j) * rhs (ix2 j q) :=
    (Ideal.matmul_plain_apply none lhs rhs _ r q).trans (by
      show Ideal.ofBits .f32 0x00000000#32 + _ = _; rw [Ideal.ofBits_zero_f32, zero_add])
  unfold block
  show acc (ix2 r k) + _ = _
  rw [e]
  refine congrArg (acc (ix2 r k) + ·) (Finset.sum_congr rfl fun f _ => congrArg (· * D (ix2 f k)) ?_)
  show max (matmul _ none h U _ (ix2 r f)) (Ideal.ofBits .f32 0x00000000#32)
    * max (matmul _ none h U _ (ix2 r f)) (Ideal.ofBits .f32 0x00000000#32) = _
  rw [e, Ideal.ofBits_zero_f32]
  rfl

/-- What the kernel stores for 256 rows is the specification's row, when the weight blocks are cut from whole weights. -/
theorem rows_apply (x : FVec Ideal S256x1024 .f32) (w fw : FVec Ideal S1x1024 .f32)
    (U0 U1 U2 U3 D0 D1 D2 D3 : FVec Ideal S1024x1024 .bf16) (U : Fin 1024 → Fin 4096 → EReal) (D : Fin 4096 → Fin 1024 → EReal)
    (hU0 : ∀ j f : Fin 1024, U0 (ix2 j f) = U j ⟨f.val, by omega⟩) (hU1 : ∀ j f : Fin 1024, U1 (ix2 j f) = U j ⟨1024 + f.val, by omega⟩)
    (hU2 : ∀ j f : Fin 1024, U2 (ix2 j f) = U j ⟨2048 + f.val, by omega⟩) (hU3 : ∀ j f : Fin 1024, U3 (ix2 j f) = U j ⟨3072 + f.val, by omega⟩)
    (hD0 : ∀ f k : Fin 1024, D0 (ix2 f k) = D ⟨f.val, by omega⟩ k) (hD1 : ∀ f k : Fin 1024, D1 (ix2 f k) = D ⟨1024 + f.val, by omega⟩ k)
    (hD2 : ∀ f k : Fin 1024, D2 (ix2 f k) = D ⟨2048 + f.val, by omega⟩ k) (hD3 : ∀ f k : Fin 1024, D3 (ix2 f k) = D ⟨3072 + f.val, by omega⟩ k)
    (r : Fin 256) (k : Fin 1024) :
    rows x w U0 U1 U2 U3 D0 D1 D2 D3 fw (ix2 r k)
      = MlpSpec.row (fun j => x (ix2 r j)) (fun j => w (ix2 0 j)) U D (fun j => fw (ix2 0 j)) k := by
  unfold rows
  rw [norm_apply]
  unfold MlpSpec.row
  refine congrFun (congrArg (MlpSpec.rowNorm · _) (funext fun c => ?_)) k
  rw [addf_apply, block_apply, block_apply, block_apply, block_apply]
  unfold MlpSpec.rowSum
  refine congrArg (x (ix2 r c) + ·) ?_
  rw [← MlpSpec.sum_blocks]
  have hn : (fun j => (truncf .bf16 (norm x w) bitsLt_bf16_f32 : FVec Ideal S256x1024 .bf16) (ix2 r j))
      = MlpSpec.rowNorm (fun j => x (ix2 r j)) (fun j => w (ix2 0 j)) := funext fun j => norm_apply x w r j
  have hz : (broadcast S256x1024 (Scalar.ofBits .f32 0x00000000#32) : FVec Ideal S256x1024 .f32) (ix2 r c) = (0 : EReal) :=
    Ideal.ofBits_zero_f32
  simp only [hn, hz, hU0, hU1, hU2, hU3, hD0, hD1, hD2, hD3]

/-! ## The output block of a grid point -/

/-- The zero offset, as printed. -/
theorem off_zero : (![0, 0] : Fin 2 → Nat) = fun _ => 0 := funext fun a => by match a with | ⟨0, _⟩ => rfl | ⟨1, _⟩ => rfl

/-- The first quarter's store. -/
theorem piece0 (x0 : Vec Ideal S1024x1024 .f32) (x1 : Vec Ideal S1x1024 .f32) (x2 : Vec Ideal S1024x4096 .bf16)
    (x3 : Vec Ideal S4096x1024 .bf16) (x4 : Vec Ideal S1x1024 .f32) :
    k0_pay33 (k0_pay28 (k0_pay37 x0 x1 x2 x3 x4) (k0_pay24 (k0_pay18 (k0_pay13 (k0_pay8 (F := Ideal)) (k0_pay12 (k0_pay37 x0 x1 x2 x3 x4) (View.ld x2 r0_5) (View.ld x3 r0_6))) (k0_pay17 (k0_pay37 x0 x1 x2 x3 x4) (View.ld x2 r0_7)) (View.ld x3 r0_8)) (k0_pay22 (k0_pay37 x0 x1 x2 x3 x4) (View.ld x2 r0_9)) (k0_pay23 (F := Ideal)) (View.ld x3 r0_10)) (View.ld x2 r0_11) (View.ld x3 r0_12)) (View.ld x0 r0_0) (View.ld x4 r0_1)
      = rows (View.ld x0 r0_0) (View.ld x1 r0_1) (View.ld x2 r0_5) (View.ld x2 r0_7) (View.ld x2 r0_9) (View.ld x2 r0_11)
          (View.ld x3 r0_6) (View.ld x3 r0_8) (View.ld x3 r0_10) (View.ld x3 r0_12) (View.ld x4 r0_1) := by
  simp only [k0_pay33, k0_pay37, k0_pay1, shapeCast_self]
  rfl

/-- The second quarter's store. -/
theorem piece1 (x0 : Vec Ideal S1024x1024 .f32) (x1 : Vec Ideal S1x1024 .f32) (x2 : Vec Ideal S1024x4096 .bf16)
    (x3 : Vec Ideal S4096x1024 .bf16) (x4 : Vec Ideal S1x1024 .f32) :
    k0_pay34 (k0_pay29 (k0_pay38 x0 x1 x2 x3 x4) (k0_pay25 (k0_pay38 x0 x1 x2 x3 x4) (k0_pay19 (k0_pay38 x0 x1 x2 x3 x4) (k0_pay14 (k0_pay38 x0 x1 x2 x3 x4) (k0_pay9 (F := Ideal)) (View.ld x2 r0_5) (View.ld x3 r0_6)) (View.ld x2 r0_7) (View.ld x3 r0_8)) (View.ld x2 r0_9) (View.ld x3 r0_10)) (View.ld x2 r0_11) (View.ld x3 r0_12)) (View.ld x0 r0_2) (View.ld x4 r0_1)
      = rows (View.ld x0 r0_2) (View.ld x1 r0_1) (View.ld x2 r0_5) (View.ld x2 r0_7) (View.ld x2 r0_9) (View.ld x2 r0_11)
          (View.ld x3 r0_6) (View.ld x3 r0_8) (View.ld x3 r0_10) (View.ld x3 r0_12) (View.ld x4 r0_1) := by
  simp only [k0_pay34, k0_pay38, k0_pay2, shapeCast_self]
  rfl

/-- The third quarter's store. -/
theorem piece2 (x0 : Vec Ideal S1024x1024 .f32) (x1 : Vec Ideal S1x1024 .f32) (x2 : Vec Ideal S1024x4096 .bf16)
    (x3 : Vec Ideal S4096x1024 .bf16) (x4 : Vec Ideal S1x1024 .f32) :
    k0_pay35 (k0_pay30 (k0_pay39 x0 x1 x2 x3 x4) (k0_pay26 (k0_pay39 x0 x1 x2 x3 x4) (k0_pay20 (k0_pay39 x0 x1 x2 x3 x4) (k0_pay15 (k0_pay39 x0 x1 x2 x3 x4) (k0_pay10 (F := Ideal)) (View.ld x2 r0_5) (View.ld x3 r0_6)) (View.ld x2 r0_7) (View.ld x3 r0_8)) (View.ld x2 r0_9) (View.ld x3 r0_10)) (View.ld x2 r0_11) (View.ld x3 r0_12)) (View.ld x0 r0_3) (View.ld x4 r0_1)
      = rows (View.ld x0 r0_3) (View.ld x1 r0_1) (View.ld x2 r0_5) (View.ld x2 r0_7) (View.ld x2 r0_9) (View.ld x2 r0_11)
          (View.ld x3 r0_6) (View.ld x3 r0_8) (View.ld x3 r0_10) (View.ld x3 r0_12) (View.ld x4 r0_1) := by
  simp only [k0_pay35, k0_pay39, k0_pay6, k0_pay3, k0_pay4, k0_pay5, shapeCast_self]
  rfl

/-- The last quarter's store. -/
theorem piece3 (x0 : Vec Ideal S1024x1024 .f32) (x1 : Vec Ideal S1x1024 .f32) (x2 : Vec Ideal S1024x4096 .bf16)
    (x3 : Vec Ideal S4096x1024 .bf16) (x4 : Vec Ideal S1x1024 .f32) :
    k0_pay36 (k0_pay32 (k0_pay27 (k0_pay40 x0 x1 x2 x3 x4) (k0_pay21 (k0_pay40 x0 x1 x2 x3 x4) (k0_pay16 (k0_pay40 x0 x1 x2 x3 x4) (k0_pay11 (F := Ideal)) (View.ld x2 r0_5) (View.ld x3 r0_6)) (View.ld x2 r0_7) (View.ld x3 r0_8)) (View.ld x2 r0_9) (View.ld x3 r0_10)) (k0_pay31 (k0_pay40 x0 x1 x2 x3 x4) (View.ld x2 r0_11) (View.ld x3 r0_12))) (View.ld x0 r0_4) (View.ld x4 r0_1)
      = rows (View.ld x0 r0_4) (View.ld x1 r0_1) (View.ld x2 r0_5) (View.ld x2 r0_7) (View.ld x2 r0_9) (View.ld x2 r0_11)
          (View.ld x3 r0_6) (View.ld x3 r0_8) (View.ld x3 r0_10) (View.ld x3 r0_12) (View.ld x4 r0_1) := by
  simp only [k0_pay36, k0_pay40, k0_pay7, shapeCast_self]
  rfl

/-- The block a grid point leaves, as the specification's rows of the input blocks. -/
def G (x0 : Vec Ideal S1024x1024 .f32) (x1 : Vec Ideal S1x1024 .f32) (x2 : Vec Ideal S1024x4096 .bf16)
    (x3 : Vec Ideal S4096x1024 .bf16) (x4 : Vec Ideal S1x1024 .f32) (y : S1024x1024.Idx) : EReal :=
  MlpSpec.row (fun j => x0 (ix2 (y 0) j)) (fun j => x1 (ix2 0 j)) (fun j f => x2 (ix2 j f)) (fun f k => x3 (ix2 f k))
    (fun j => x4 (ix2 0 j)) (y 1)

/-- The rows stored through a quarter's rectangle are the specification's there. -/
theorem quarter (x0 : Vec Ideal S1024x1024 .f32) (x1 : Vec Ideal S1x1024 .f32) (x2 : Vec Ideal S1024x4096 .bf16)
    (x3 : Vec Ideal S4096x1024 .bf16) (x4 : Vec Ideal S1x1024 .f32) (o : Nat)
    (inb : ∀ a, (![o, 0] : Fin 2 → Nat) a + S256x1024.size a ≤ S1024x1024.size a) (y : S256x1024.Idx) :
    rows (View.ld x0 (Rect.unit (s := S1024x1024) ![o, 0] S256x1024.size inb)) (View.ld x1 r0_1)
        (View.ld x2 r0_5) (View.ld x2 r0_7) (View.ld x2 r0_9) (View.ld x2 r0_11)
        (View.ld x3 r0_6) (View.ld x3 r0_8) (View.ld x3 r0_10) (View.ld x3 r0_12) (View.ld x4 r0_1) y
      = G x0 x1 x2 x3 x4 ((Rect.unit (s := S1024x1024) ![o, 0] S256x1024.size inb).emb y) := by
  have hy : y = ix2 (n0 := 256) (n1 := 1024) (y 0) (y 1) := ValueIdx.eq_ix2 y
  have e1 (v : Vec Ideal S1x1024 .f32) : View.ld v r0_1 = v := View.ld_unit_zero off_zero _ _
  have ec (off : Nat) (inb) (j : Fin 1024) (f : Fin 1024) (h : off + f.val < 4096) :
      View.ld x2 (Rect.unit (s := S1024x4096) ![0, off] S1024x1024.size inb) (ix2 j f) = x2 (ix2 j ⟨off + f.val, h⟩) :=
    congrArg x2 (funext fun a => Fin.ext (by
      match a with
      | ⟨0, _⟩ => show 0 + 1 * j.val = j.val; omega
      | ⟨1, _⟩ => show off + 1 * f.val = off + f.val; omega))
  have er (off : Nat) (inb) (f : Fin 1024) (k : Fin 1024) (h : off + f.val < 4096) :
      View.ld x3 (Rect.unit (s := S4096x1024) ![off, 0] S1024x1024.size inb) (ix2 f k) = x3 (ix2 ⟨off + f.val, h⟩ k) :=
    congrArg x3 (funext fun a => Fin.ext (by
      match a with
      | ⟨0, _⟩ => show off + 1 * f.val = off + f.val; omega
      | ⟨1, _⟩ => show 0 + 1 * k.val = k.val; omega))
  have z (f : Fin 1024) (h : 0 + f.val < 4096) (h' : f.val < 4096) : (⟨0 + f.val, h⟩ : Fin 4096) = ⟨f.val, h'⟩ :=
    Fin.ext (Nat.zero_add _)
  refine (congrArg _ hy).trans ((rows_apply _ _ _ _ _ _ _ _ _ _ _ (fun j f => x2 (ix2 j f)) (fun f k => x3 (ix2 f k))
    (fun j f => (ec 0 _ j f (by omega)).trans (by rw [z])) (fun j f => ec 1024 _ j f (by omega)) (fun j f => ec 2048 _ j f (by omega))
    (fun j f => ec 3072 _ j f (by omega)) (fun f k => (er 0 _ f k (by omega)).trans (by rw [z])) (fun f k => er 1024 _ f k (by omega))
    (fun f k => er 2048 _ f k (by omega)) (fun f k => er 3072 _ f k (by omega)) (y 0) (y 1)).trans ?_)
  unfold G
  rw [e1, e1]
  have h1 : (Rect.unit (s := S1024x1024) ![o, 0] S256x1024.size inb).emb y 1 = y 1 :=
    Fin.ext (by show 0 + 1 * (y 1).val = (y 1).val; omega)
  rw [h1]
  refine congrFun (congrArg (MlpSpec.row · _ _ _ _) (funext fun j => congrArg x0 (funext fun a => Fin.ext ?_))) _
  match a with
  | ⟨0, _⟩ => rfl
  | ⟨1, _⟩ => show 0 + 1 * j.val = j.val; omega

/-- What a grid point leaves in its output block. -/
theorem out_eq (x0 : Vec Ideal S1024x1024 .f32) (x1 : Vec Ideal S1x1024 .f32) (x2 : Vec Ideal S1024x4096 .bf16)
    (x3 : Vec Ideal S4096x1024 .bf16) (x4 : Vec Ideal S1x1024 .f32) : out0_5 x0 x1 x2 x3 x4 = G x0 x1 x2 x3 x4 := by
  funext y
  unfold out0_5
  rw [piece0, piece1, piece2, piece3]
  refine View.canon_apply_of_pieces (Val := Elt Ideal) (e := .f32) (G x0 x1 x2 x3 x4) _ (fun p hp => ?_) y (cover0_5 _ _ _ _ y)
  simp only [List.mem_cons, List.not_mem_nil, or_false] at hp
  rcases hp with rfl | rfl | rfl | rfl <;> exact fun x => quarter x0 x1 x2 x3 x4 _ _ x

end Cert.MlpIdeal.Rows

end
-- ==== Proof.MlpValue.lean ====
/- The MLP call's value claim at the ideal instance: the array the kernel leaves and the one the reference leaves are the
   specification's rows (`Proof/MlpRows.lean`) of the arguments. The kernel's side puts the sixteen blocks of 1024 rows
   together; the reference's reads its operations over all 16384 rows at a row and column. -/
module

public import proofs.«01_k».proof.Defs
public import proofs.«01_k».proof.Proof.MlpRows
public import proofs.«01_k».proof.Proof.Gen.MlpReferenceIdeal.Run
public import Idealize.ShloMosaic.Lib.StackMember
public import Idealize.ShloMosaic.Lib.IdealHost

@[expose] public section

noncomputable section

namespace Cert.MlpSpec

open Idealize.ShloMosaic.ValueIdx
open Idealize.ShloMosaic hiding ix1 ix2 ix3

/-- Rows with the same entries have the same result. -/
theorem row_congr {x x' w w' fw fw' : Fin 1024 → EReal} {U U' : Fin 1024 → Fin 4096 → EReal} {D D' : Fin 4096 → Fin 1024 → EReal}
    {k k' : Fin 1024} (hx : ∀ j, x j = x' j) (hw : ∀ j, w j = w' j) (hU : ∀ j f, U j f = U' j f) (hD : ∀ f j, D f j = D' f j)
    (hf : ∀ j, fw j = fw' j) (hk : k = k') : row x w U D fw k = row x' w' U' D' fw' k' := by
  obtain rfl : x = x' := funext hx
  obtain rfl : w = w' := funext hw
  obtain rfl : U = U' := funext fun j => funext (hU j)
  obtain rfl : D = D' := funext fun f => funext (hD f)
  obtain rfl : fw = fw' := funext hf
  rw [hk]

/-- The whole result as a function of the arguments, the activations as 16384 rows. -/
def result (X : (⟨2, ![16384, 1024]⟩ : Shape).Idx → EReal) (a1 : (⟨2, ![1024, 4096]⟩ : Shape).Idx → EReal)
    (a2 : (⟨2, ![4096, 1024]⟩ : Shape).Idx → EReal) (a3 : (⟨2, ![1, 1024]⟩ : Shape).Idx → EReal)
    (a4 : (⟨1, ![1024]⟩ : Shape).Idx → EReal) (i : (⟨2, ![16384, 1024]⟩ : Shape).Idx) : EReal :=
  row (fun j => X (ix2 (n0 := 16384) (n1 := 1024) (i 0) j)) (fun j => a3 (ix2 0 j)) (fun j f => a1 (ix2 j f)) (fun f k => a2 (ix2 f k))
    (fun j => a4 (ix1 j)) (i 1)

end Cert.MlpSpec

/-! ## The kernel's array -/

namespace Cert.MlpIdeal.Rows

open Cert.MlpIdeal Cert.MlpIdeal.Gen Cert.MlpIdeal.Value Idealize.ShloMosaic.TcCoe Idealize.ShloMosaic.ValueIdx
open Idealize.ShloMosaic hiding ix1 ix2 mulf_apply addf_apply eq_ix2

variable (m : (ℓ : Loc nD τ sig) → Buf (Elt Ideal) ℓ)

/-- Where each window's block lies at a grid point: the rows move with the point, the weights stay. -/
theorem idx_at : ∀ t : Fin cfg0.N, win0_0.index t = ![(grid0.coords t 0).val, 0] ∧ win0_1.index t = ![0, 0]
    ∧ win0_2.index t = ![0, 0] ∧ win0_3.index t = ![0, 0] ∧ win0_4.index t = ![0, 0]
    ∧ win0_5.index t = ![(grid0.coords t 0).val, 0] := (by decide +kernel : ∀ t : Fin grid0.N, _)

/-- The array after the run, from the region's operands. -/
theorem final (c : Dev nD) : (dats m 0 c).arrAt 5 cfg0.N = fun i : S16384x1024.Idx =>
    MlpSpec.row (fun j => V m c main_v3 (ix2 (i 0) j)) (fun j => V m c main_v1 (ix2 0 j)) (fun j f => V m c main_arg1 (ix2 j f))
      (fun f k => V m c main_arg2 (ix2 f k)) (fun j => V m c main_v2 (ix2 0 j)) (i 1) := by
  refine (dats m 0 c).arrAt_eq_of_covers 5 _ (by decide +kernel) fun t hf y => ?_
  obtain ⟨e0, e1, e2, e3, e4, e5⟩ := idx_at t
  have hy0 : ((((cfg0.win 5).blk t).view.emb y) 0 : ℕ) = (grid0.coords t 0).val * 1024 + (y 0).val := by blk_simp [e5]
  have hy1 : ((((cfg0.win 5).blk t).view.emb y) 1 : ℕ) = (y 1).val := by blk_simp [e5]
  rw [after0_5, out_eq]
  show G _ _ _ _ _ ((cfg0.win 5).xinj (cfg0.grid.coords t) y) = _
  unfold G
  refine MlpSpec.row_congr (fun j => ?_) (fun j => ?_) (fun j f => ?_) (fun f j => ?_) (fun j => ?_) ?_
  · blk_ext [iblk, e0, e5]
    exact hy0.symm
  · blk_ext [iblk, e1]
  · blk_ext [iblk, e2]
  · blk_ext [iblk, e3]
  · blk_ext [iblk, e4]
  · exact Fin.ext hy1.symm

/-- The array after the run, from the arguments. -/
theorem final_args (c : Dev nD) : (dats m 0 c).arrAt 5 cfg0.N
    = MlpSpec.result (shapeCast S16384x1024 (m ((c : Thread nD τ).loc main_arg0)) shapeCasts_S8x2048x1024_S16384x1024)
        (m ((c : Thread nD τ).loc main_arg1)) (m ((c : Thread nD τ).loc main_arg2)) (m ((c : Thread nD τ).loc main_arg3))
        (m ((c : Thread nD τ).loc main_arg4)) := by
  rw [final]
  funext i
  unfold MlpSpec.result
  refine MlpSpec.row_congr (fun j => ?_) (fun j => ?_) (fun j f => ?_) (fun f j => ?_) (fun j => ?_) rfl
  · entry_read; rfl
  · entry_read
    rw [shapeCast_shapeCast]
  · rw [V_main_arg1]
  · rw [V_main_arg2]
  · entry_read
    exact shapeCast_a_1a_apply _ _ _ _

end Cert.MlpIdeal.Rows

/-! ## The reference's array -/

namespace Cert.MlpReferenceIdeal.Rows

open Cert.MlpReferenceIdeal Cert.MlpReferenceIdeal.Gen Cert.MlpReferenceIdeal.Value Idealize.ShloMosaic.TcCoe Idealize.ShloMosaic.ValueIdx
open Idealize.ShloMosaic hiding ix1 ix2 mulf_apply addf_apply eq_ix2

/-- The RMS norm of all rows, as the reference writes it. -/
def norm (x : FVec Ideal S16384x1024 .f32) (w : FVec Ideal S1024 .f32) : FVec Ideal S16384x1024 .f32 :=
  mulf (mulf x (broadcastInDim S16384x1024 ![0, 1] bcast_S16384x1_S16384x1024_0_1 (Host.rsqrt (addf (Host.divf
    (broadcastInDim S16384x1 ![0] bcast_S16384_S16384x1_0 (Host.reduceAdd (mulf x x) (constant S_ .f32 0x00000000#32)
      reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 w))

/-- The rectified hidden units of all rows, before they are squared. -/
def hidden (h : FVec Ideal S16384x1024 .f32) (U : FVec Ideal S1024x4096 .bf16) : FVec Ideal S16384x4096 .f32 :=
  maximumf (Host.dotGeneral dot_S16384x1024_S1024x4096_S16384x4096_1_0_0_1_n_n none h (extf .f32 U bitsLt_bf16_f32))
    (broadcastInDim S16384x4096 ![] bcast_S_S16384x4096 (constant S_ .f32 0x00000000#32))

/-- The reference's result from 16384 rows and the weights. -/
def out (X : FVec Ideal S16384x1024 .f32) (U : FVec Ideal S1024x4096 .bf16) (D : FVec Ideal S4096x1024 .bf16)
    (w fw : FVec Ideal S1024 .f32) : FVec Ideal S16384x1024 .f32 :=
  norm (addf X (Host.dotGeneral dot_S16384x4096_S4096x1024_S16384x1024_1_0_0_1_n_n none
    (mulf (hidden (norm X w) U) (hidden (norm X w) U)) (extf .f32 D bitsLt_bf16_f32))) fw

/-- The index a sum along a row reads. -/
theorem lift_eq (h : S16384x1024.Reduces [1] S16384) (r : Fin 16384) (k : Fin 1024) : h.lift (ix1 r) k = ix2 r k := by
  funext a; match a with | ⟨0, _⟩ => rfl | ⟨1, _⟩ => rfl

/-- The reference's norm, read at a row and column. -/
theorem norm_apply (x : FVec Ideal S16384x1024 .f32) (w : FVec Ideal S1024 .f32) (r : Fin 16384) (k : Fin 1024) :
    norm x w (ix2 r k) = MlpSpec.rowNorm (fun j => x (ix2 r j)) (fun j => w (ix1 j)) k := by
  have e1 : broadcastInDim S16384x1024 ![0, 1] bcast_S1x1024_S16384x1024_0_1
      (broadcastInDim S1x1024 ![1] bcast_S1024_S1x1024_1 w) (ix2 r k) = w (ix1 k) :=
    (broadcastInDim_apply _ _ _ _ (ix2 0 k) fun a => by match a with | ⟨0, _⟩ => rfl | ⟨1, _⟩ => rfl).trans
      (broadcastInDim_apply _ _ _ _ (ix1 k) fun a => by match a with | ⟨0, _⟩ => rfl)
  have e2 (v : FVec Ideal S16384x1 .f32) :
      broadcastInDim S16384x1024 ![0, 1] bcast_S16384x1_S16384x1024_0_1 v (ix2 r k) = v (ix2 r 0) :=
    broadcastInDim_apply _ _ _ _ _ fun a => by match a with | ⟨0, _⟩ => rfl | ⟨1, _⟩ => rfl
  have e3 (v : FVec Ideal S16384 .f32) : broadcastInDim S16384x1 ![0] bcast_S16384_S16384x1_0 v (ix2 r 0) = v (ix1 r) :=
    broadcastInDim_apply _ _ _ _ _ fun a => by match a with | ⟨0, _⟩ => rfl
  have e4 : Host.reduceAdd (mulf x x) (constant S_ .f32 0x00000000#32) reducesTo_S16384x1024_S16384_d1 h_S_ (ix1 r)
      = ∑ j : Fin 1024, x (ix2 r j) * x (ix2 r j) := by
    have hr : S16384x1024.Reduces [1] S16384 := by decide
    refine (Ideal.hostReduceAdd_single reducesTo_S16384x1024_S16384_d1 hr (mulf x x) _ (ix1 r)).trans ?_
    show Ideal.ofBits .f32 0x00000000#32 + _ = _
    rw [Ideal.ofBits_zero_f32, zero_add]
    exact Finset.sum_congr rfl fun j _ => congrArg₂ (fun a b : EReal => a * b) (congrArg x (lift_eq hr r j)) (congrArg x (lift_eq hr r j))
  unfold norm MlpSpec.rowNorm
  have e5 (v : FVec Ideal S16384x1 .f32) : Host.rsqrt v (ix2 r 0) = Ideal.rsqrt (v (ix2 r 0)) := rfl
  have e6 (b : BitVec 32) : broadcastInDim S16384x1 ![] bcast_S_S16384x1 (constant (F := Ideal) S_ .f32 b) (ix2 r 0)
      = Ideal.ofBits .f32 b := (broadcastInDim_scalar_apply _ _ _).trans rfl
  rw [mulf_apply, mulf_apply, e1, e2, e5, addf_apply, hostDivf_apply, e3, e4, e6, e6]

/-- A hidden unit of the reference, read at a row. -/
theorem hidden_apply (h : FVec Ideal S16384x1024 .f32) (U : FVec Ideal S1024x4096 .bf16) (r : Fin 16384) (f : Fin 4096) :
    hidden h U (ix2 r f) = max (∑ k, h (ix2 r k) * U (ix2 k f)) 0 := by
  unfold hidden
  rw [maximumf_apply]
  refine congrArg₂ max (Idealize.ShloMosaic.StackMember.dotGeneral_plain_apply none h (extf .f32 U bitsLt_bf16_f32 : FVec Ideal S1024x4096 .f32) r f) ?_
  exact Ideal.ofBits_zero_f32

/-- The reference's result is the specification's. -/
theorem out_apply (X : FVec Ideal S16384x1024 .f32) (U : FVec Ideal S1024x4096 .bf16) (D : FVec Ideal S4096x1024 .bf16)
    (w fw : FVec Ideal S1024 .f32) (r : Fin 16384) (k : Fin 1024) :
    out X U D w fw (ix2 r k) = MlpSpec.row (fun j => X (ix2 r j)) (fun j => w (ix1 j)) (fun j f => U (ix2 j f))
      (fun f j => D (ix2 f j)) (fun j => fw (ix1 j)) k := by
  unfold out
  rw [norm_apply]
  unfold MlpSpec.row
  refine congrFun (congrArg (MlpSpec.rowNorm · _) (funext fun c => ?_)) k
  rw [addf_apply]
  unfold MlpSpec.rowSum
  refine congrArg (X (ix2 r c) + ·) ((Idealize.ShloMosaic.StackMember.dotGeneral_plain_apply none _ (extf .f32 D bitsLt_bf16_f32 : FVec Ideal S4096x1024 .f32) r c).trans
    (Finset.sum_congr rfl fun f _ => congrArg (· * D (ix2 f c)) ?_))
  rw [mulf_apply, hidden_apply]
  unfold MlpSpec.unit
  simp only [norm_apply]

/-- The reference's result from the arguments. -/
theorem result_eq (m : (ℓ : Loc nD τ sig) → Buf (Elt Ideal) ℓ) (c : Dev nD) : res_main_v34 m c
    = MlpSpec.result (shapeCast S16384x1024 (m ((c : Thread nD τ).loc main_arg0)) shapeCasts_S8x2048x1024_S16384x1024)
        (m ((c : Thread nD τ).loc main_arg1)) (m ((c : Thread nD τ).loc main_arg2)) (m ((c : Thread nD τ).loc main_arg3))
        (m ((c : Thread nD τ).loc main_arg4)) := by
  have e : res_main_v34 m c = out (shapeCast S16384x1024 (m ((c : Thread nD τ).loc main_arg0)) shapeCasts_S8x2048x1024_S16384x1024)
      (m ((c : Thread nD τ).loc main_arg1)) (m ((c : Thread nD τ).loc main_arg2))
      (shapeCast S1024 (m ((c : Thread nD τ).loc main_arg3)) shapeCasts_S1x1024_S1024) (m ((c : Thread nD τ).loc main_arg4)) := rfl
  rw [e]
  funext i
  have hi : i = ix2 (n0 := 16384) (n1 := 1024) (i 0) (i 1) := ValueIdx.eq_ix2 i
  refine (congrArg _ hi).trans ((out_apply _ _ _ _ _ (i 0) (i 1)).trans ?_)
  exact MlpSpec.row_congr (fun _ => rfl) (fun j => shapeCast_1a_a_apply _ _ j) (fun _ _ => rfl) (fun _ _ => rfl) (fun _ => rfl) rfl

end Cert.MlpReferenceIdeal.Rows

/-! ## The claim -/

namespace Cert.MlpValue

open Idealize.ShloMosaic Idealize.SL.Sem

/-- The MLP call and its reference leave the same array. -/
theorem algebraic : Cert.algebraic_MlpIdeal_MlpReferenceIdeal := by
  intro m g m' g' _ hm
  refine ⟨fun c => (Cert.MlpIdeal.Gen.dats m 0 c).arrAt 5 Cert.MlpIdeal.cfg0.N, Cert.MlpIdeal.Value.run_blocks m g, ?_⟩
  refine (θ_run Cert.MlpReferenceIdeal.defs _ _).mono (fun r h c => ⟨(h c).1.trans ?_, (h c).2⟩)
    (Cert.MlpReferenceIdeal.Value.run m' g')
  rw [Cert.MlpReferenceIdeal.Rows.result_eq]
  refine Eq.trans ?_ (Cert.MlpIdeal.Rows.final_args m c).symm
  obtain ⟨h0, h1, h2, h3, h4⟩ := hm c
  rw [h0, h1, h2, h3, h4]

end Cert.MlpValue

end
-- ==== Proof.lean ====
/- The certificate's claims, put together: the mixer call runs, ends and leaves its arguments alone at the bits and at the
   ideal instance (`Proof/KernelLaunch.lean`, `Proof/Launch.lean`), and at the ideal one it leaves the MLP's weights cast to bf16
   (`Proof/Weights.lean`); the MLP call does too, and at the ideal instance it computes the
   squared-ReLU MLP with its two norms. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpIdeal.Value
public import proofs.«01_k».proof.Proof.Gen.MlpReferenceIdeal
public import proofs.«01_k».proof.Proof.Gen.MlpReferenceIdeal.Run
public import proofs.«01_k».proof.Proof.KernelLaunch
public import proofs.«01_k».proof.Proof.Launch
public import proofs.«01_k».proof.Proof.Weights
public import proofs.«01_k».proof.Proof.MlpValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.Mlp.Gen.facts, Cert.MlpIdeal.Gen.facts,
  Cert.MlpReferenceIdeal.Gen.facts, Cert.WeightsCast.facts,
  fun m g _ => Cert.Kernel.Hand.frame m g,
  fun m g _ => Cert.KernelIdeal.Hand.frame m g,
  fun m g _ => Cert.Mlp.Gen.frame m g,
  fun m g _ => Cert.MlpIdeal.Gen.frame m g,
  fun m g _ => (θ_run Cert.MlpReferenceIdeal.defs _ _).mono
    (fun r h => ⟨fun c => (h c).2, Idealize.ShloMosaic.sem_eq_zero_of_no_sems (by decide) r.2⟩) (Cert.MlpReferenceIdeal.Value.run m g),
  trivial, Cert.WeightsCast.holds, trivial, Cert.MlpValue.algebraic⟩

end Cert.Proof

end
